-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S4096x512 : Shape := ⟨2, ![4096, 512]⟩
abbrev S4096 : Shape := ⟨1, ![4096]⟩
abbrev S4096x3 : Shape := ⟨2, ![4096, 3]⟩
abbrev S_ : Shape := ⟨0, ![]⟩
abbrev S4096x1x3 : Shape := ⟨3, ![4096, 1, 3]⟩
abbrev S1x4096x3 : Shape := ⟨3, ![1, 4096, 3]⟩
abbrev S4096x4096x3 : Shape := ⟨3, ![4096, 4096, 3]⟩
abbrev S4096x4096 : Shape := ⟨2, ![4096, 4096]⟩
abbrev S4096x1 : Shape := ⟨2, ![4096, 1]⟩
abbrev S1x4096 : Shape := ⟨2, ![1, 4096]⟩
abbrev S512x4096 : Shape := ⟨2, ![512, 4096]⟩

class Facts : Prop where
  bcast_S_S4096 : S_.BroadcastsInDim S4096 (![] : Fin 0 → Fin S4096.rank)
  bcast_S_S4096x3 : S_.BroadcastsInDim S4096x3 (![] : Fin 0 → Fin S4096x3.rank)
  reducesTo_S4096x3_S4096_d1 : S4096x3.ReducesTo [1] S4096
  h_S_ : 0 < S_.numel
  bcast_S_S4096x512 : S_.BroadcastsInDim S4096x512 (![] : Fin 0 → Fin S4096x512.rank)
  reducesTo_S4096x512_S4096_d1 : S4096x512.ReducesTo [1] S4096
  bcast_S4096x3_S4096x1x3_0_2 : S4096x3.BroadcastsInDim S4096x1x3 (![0, 2] : Fin 2 → Fin S4096x1x3.rank)
  bcast_S4096x3_S1x4096x3_1_2 : S4096x3.BroadcastsInDim S1x4096x3 (![1, 2] : Fin 2 → Fin S1x4096x3.rank)
  bcast_S4096x1x3_S4096x4096x3_0_1_2 : S4096x1x3.BroadcastsInDim S4096x4096x3 (![0, 1, 2] : Fin 3 → Fin S4096x4096x3.rank)
  bcast_S1x4096x3_S4096x4096x3_0_1_2 : S1x4096x3.BroadcastsInDim S4096x4096x3 (![0, 1, 2] : Fin 3 → Fin S4096x4096x3.rank)
  reducesTo_S4096x4096x3_S4096x4096_d2 : S4096x4096x3.ReducesTo [2] S4096x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  transposes_S4096x512_S512x4096_1_0 : S4096x512.Transposes [1, 0] S512x4096
  bcast_S4096x1_S4096x512_0_1 : S4096x1.BroadcastsInDim S4096x512 (![0, 1] : Fin 2 → Fin S4096x512.rank)
  dot_S4096x512_S512x4096_S4096x4096_1_0_0_1_n_n_wf : DotDims.WF S4096x512 S512x4096 S4096x4096 [1] [0] [0] [1] [] []

variable [Facts]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def fn_where {F : FTy → Type} [FloatOps F] (arg0 : IVec S4096x4096 1) (arg1 : FVec F S4096x4096 .f32) (arg2 : FVec F S_ .f32) : FVec F S4096x4096 .f32 :=
  let v0 : FVec F S_ .f32 := id arg2
  let v1 : FVec F S4096x4096 .f32 := broadcastInDim S4096x4096 ![] bcast_S_S4096x4096 v0
  let v2 : FVec F S4096x4096 .f32 := select arg0 arg1 v1
  v2

def fn_part4 {F : FTy → Type} [FloatOps F] (main_v4 : IVec S4096 1) (main_v8 : IVec S4096 1) (main_v12 : IVec S4096 1) (main_v39 : IVec S4096 1) (main_v51 : FVec F S4096x4096 .f32) (main_v71 : IVec S4096x4096 1) (main_v73 : FVec F S4096 .f32) (main_v74 : FVec F S4096x4096 .f32) : IVec S4096 1 :=
  let main_cst_19 : FVec F S_ .f32 := constant S_ .f32 0x7F800000#32
  let main_v75 : FVec F S4096 .f32 := (fun x v => Host.reduce FloatOps.minimumf x v reducesTo_S4096x4096_S4096_d1 h_S_) main_v74 main_cst_19
  let main_v76 : IVec S4096 1 := cmpf .ole main_v73 main_v75
  let main_cst_20 : FVec F S_ .f32 := constant S_ .f32 0xFF800000#32
  let main_v77 : FVec F S4096x4096 .f32 := fn_where (F := F) main_v71 main_v51 main_cst_20
  let main_cst_21 : FVec F S_ .f32 := constant S_ .f32 0xFF800000#32
  let main_v78 : FVec F S4096 .f32 := (fun x v => Host.reduce FloatOps.maximumf x v reducesTo_S4096x4096_S4096_d1 h_S_) main_v77 main_cst_21
  let main_cst_22 : FVec F S_ .f32 := constant S_ .f32 0x7F800000#32
  let main_v79 : FVec F S4096x4096 .f32 := fn_where (F := F) main_v71 main_v51 main_cst_22
  let main_cst_23 : FVec F S_ .f32 := constant S_ .f32 0x7F800000#32
  let main_v80 : FVec F S4096 .f32 := (fun x v => Host.reduce FloatOps.minimumf x v reducesTo_S4096x4096_S4096_d1 h_S_) main_v79 main_cst_23
  let main_v81 : IVec S4096 1 := cmpf .ole main_v78 main_v80
  let main_v82 : IVec S4096 1 := andi main_v4 main_v8
  let main_v83 : IVec S4096 1 := andi main_v82 main_v12
  let main_v84 : IVec S4096 1 := andi main_v83 main_v39
  let main_v85 : IVec S4096 1 := andi main_v84 main_v76
  let main_v86 : IVec S4096 1 := andi main_v85 main_v81
  main_v86

def fn_part3 {F : FTy → Type} [FloatOps F] (main_v4 : IVec S4096 1) (main_v8 : IVec S4096 1) (main_v12 : IVec S4096 1) (main_v19 : FVec F S4096x4096 .f32) (main_v31 : IVec S4096x4096 1) (main_v32 : IVec S4096x4096 1) (main_v39 : IVec S4096 1) (main_v51 : FVec F S4096x4096 .f32) (main_v57 : FVec F S4096x512 .f32) : IVec S4096 1 :=
  let main_v58 : FVec F S512x4096 .f32 := (transpose S512x4096 [1, 0] · transposes_S4096x512_S512x4096_1_0) main_v57
  let main_v59 : FVec F S4096x4096 .f32 := (fun l r => Host.dotGeneral dot_S4096x512_S512x4096_S4096x4096_1_0_0_1_n_n none l r) main_v57 main_v58
  let main_cst_12 : FVec F S_ .f32 := constant S_ .f32 0xFF800000#32
  let main_v60 : FVec F S4096x4096 .f32 := fn_where (F := F) main_v31 main_v19 main_cst_12
  let main_cst_13 : FVec F S_ .f32 := constant S_ .f32 0xFF800000#32
  let main_v61 : FVec F S4096 .f32 := (fun x v => Host.reduce FloatOps.maximumf x v reducesTo_S4096x4096_S4096_d1 h_S_) main_v60 main_cst_13
  let main_cst_14 : FVec F S_ .f32 := constant S_ .f32 0xFF800000#32
  let main_v62 : FVec F S4096x4096 .f32 := fn_where (F := F) main_v32 main_v59 main_cst_14
  let main_cst_15 : FVec F S_ .f32 := constant S_ .f32 0xFF800000#32
  let main_v63 : FVec F S4096 .f32 := (fun x v => Host.reduce FloatOps.maximumf x v reducesTo_S4096x4096_S4096_d1 h_S_) main_v62 main_cst_15
  let main_v64 : FVec F S4096x1 .f32 := broadcastInDim S4096x1 ![0] bcast_S4096_S4096x1_0 main_v61
  let main_v65 : FVec F S4096x4096 .f32 := broadcastInDim S4096x4096 ![0, 1] bcast_S4096x1_S4096x4096_0_1 main_v64
  let main_v66 : IVec S4096x4096 1 := cmpf .oge main_v19 main_v65
  let main_v67 : IVec S4096x4096 1 := andi main_v31 main_v66
  let main_v68 : FVec F S4096x1 .f32 := broadcastInDim S4096x1 ![0] bcast_S4096_S4096x1_0 main_v63
  let main_v69 : FVec F S4096x4096 .f32 := broadcastInDim S4096x4096 ![0, 1] bcast_S4096x1_S4096x4096_0_1 main_v68
  let main_v70 : IVec S4096x4096 1 := cmpf .oge main_v59 main_v69
  let main_v71 : IVec S4096x4096 1 := andi main_v32 main_v70
  let main_cst_16 : FVec F S_ .f32 := constant S_ .f32 0xFF800000#32
  let main_v72 : FVec F S4096x4096 .f32 := fn_where (F := F) main_v67 main_v51 main_cst_16
  let main_cst_17 : FVec F S_ .f32 := constant S_ .f32 0xFF800000#32
  let main_v73 : FVec F S4096 .f32 := (fun x v => Host.reduce FloatOps.maximumf x v reducesTo_S4096x4096_S4096_d1 h_S_) main_v72 main_cst_17
  let main_cst_18 : FVec F S_ .f32 := constant S_ .f32 0x7F800000#32
  let main_v74 : FVec F S4096x4096 .f32 := fn_where (F := F) main_v67 main_v51 main_cst_18
  fn_part4 (F := F) main_v4 main_v8 main_v12 main_v39 main_v51 main_v71 main_v73 main_v74

def fn_part2 {F : FTy → Type} [FloatOps F] (main_arg0 : FVec F S4096x512 .f32) (main_v4 : IVec S4096 1) (main_v8 : IVec S4096 1) (main_v12 : IVec S4096 1) (main_v19 : FVec F S4096x4096 .f32) (main_v31 : IVec S4096x4096 1) (main_v32 : IVec S4096x4096 1) (main_v34 : IVec S4096 1) (main_v37 : IVec S4096x4096 1) : IVec S4096 1 :=
  let main_c_8 : IVec S_ 1 := constantI S_ 1 0#1
  let main_v38 : IVec S4096 1 := (fun x v => Host.reduce IntOp.ori x v reducesTo_S4096x4096_S4096_d1 h_S_) main_v37 main_c_8
  let main_v39 : IVec S4096 1 := ori main_v34 main_v38
  let main_v40 : FVec F S4096x512 .f32 := mulf main_arg0 main_arg0
  let main_cst_9 : FVec F S_ .f32 := constant S_ .f32 0x00000000#32
  let main_v41 : FVec F S4096 .f32 := (fun x v => Host.reduceAdd x v reducesTo_S4096x512_S4096_d1 h_S_) main_v40 main_cst_9
  let main_v42 : FVec F S4096x1 .f32 := broadcastInDim S4096x1 ![0] bcast_S4096_S4096x1_0 main_v41
  let main_v43 : FVec F S1x4096 .f32 := broadcastInDim S1x4096 ![1] bcast_S4096_S1x4096_1 main_v41
  let main_v44 : FVec F S4096x4096 .f32 := broadcastInDim S4096x4096 ![0, 1] bcast_S4096x1_S4096x4096_0_1 main_v42
  let main_v45 : FVec F S4096x4096 .f32 := broadcastInDim S4096x4096 ![0, 1] bcast_S1x4096_S4096x4096_0_1 main_v43
  let main_v46 : FVec F S4096x4096 .f32 := addf main_v44 main_v45
  let main_v47 : FVec F S512x4096 .f32 := (transpose S512x4096 [1, 0] · transposes_S4096x512_S512x4096_1_0) main_arg0
  let main_v48 : FVec F S4096x4096 .f32 := (fun l r => Host.dotGeneral dot_S4096x512_S512x4096_S4096x4096_1_0_0_1_n_n none l r) main_arg0 main_v47
  let main_cst_10 : FVec F S_ .f32 := constant S_ .f32 0x40000000#32
  let main_v49 : FVec F S4096x4096 .f32 := broadcastInDim S4096x4096 ![] bcast_S_S4096x4096 main_cst_10
  let main_v50 : FVec F S4096x4096 .f32 := mulf main_v49 main_v48
  let main_v51 : FVec F S4096x4096 .f32 := subf main_v46 main_v50
  let main_v52 : FVec F S4096 .f32 := Host.sqrt main_v41
  let main_cst_11 : FVec F S_ .f32 := constant S_ .f32 0x322BCC77#32
  let main_v53 : FVec F S4096 .f32 := broadcastInDim S4096 ![] bcast_S_S4096 main_cst_11
  let main_v54 : FVec F S4096 .f32 := maximumf main_v52 main_v53
  let main_v55 : FVec F S4096x1 .f32 := broadcastInDim S4096x1 ![0] bcast_S4096_S4096x1_0 main_v54
  let main_v56 : FVec F S4096x512 .f32 := broadcastInDim S4096x512 ![0, 1] bcast_S4096x1_S4096x512_0_1 main_v55
  let main_v57 : FVec F S4096x512 .f32 := Host.divf main_arg0 main_v56
  fn_part3 (F := F) main_v4 main_v8 main_v12 main_v19 main_v31 main_v32 main_v39 main_v51 main_v57

def fn_part1 {F : FTy → Type} [FloatOps F] (main_arg0 : FVec F S4096x512 .f32) (main_arg1 : IVec S4096 32) (main_v4 : IVec S4096 1) (main_v8 : IVec S4096 1) (main_v12 : IVec S4096 1) (main_v17 : FVec F S4096x4096x3 .f32) : IVec S4096 1 :=
  let main_v18 : FVec F S4096x4096x3 .f32 := mulf main_v17 main_v17
  let main_cst_4 : FVec F S_ .f32 := constant S_ .f32 0x00000000#32
  let main_v19 : FVec F S4096x4096 .f32 := (fun x v => Host.reduceAdd x v reducesTo_S4096x4096x3_S4096x4096_d2 h_S_) main_v18 main_cst_4
  let main_v20 : IVec S4096x1 32 := broadcastInDim S4096x1 ![0] bcast_S4096_S4096x1_0 main_arg1
  let main_v21 : IVec S1x4096 32 := broadcastInDim S1x4096 ![1] bcast_S4096_S1x4096_1 main_arg1
  let main_v22 : IVec S4096x4096 32 := broadcastInDim S4096x4096 ![0, 1] bcast_S4096x1_S4096x4096_0_1 main_v20
  let main_v23 : IVec S4096x4096 32 := broadcastInDim S4096x4096 ![0, 1] bcast_S1x4096_S4096x4096_0_1 main_v21
  let main_v24 : IVec S4096x4096 1 := cmpi .eq main_v22 main_v23
  let main_v25 : IVec S4096x4096 32 := iotaInDim S4096x4096 32 0
  let main_v26 : IVec S4096x4096 32 := iotaInDim S4096x4096 32 1
  let main_c_5 : IVec S_ 32 := constantI S_ 32 0#32
  let main_v27 : IVec S4096x4096 32 := broadcastInDim S4096x4096 ![] bcast_S_S4096x4096 main_c_5
  let main_v28 : IVec S4096x4096 32 := addi main_v25 main_v27
  let main_v29 : IVec S4096x4096 1 := cmpi .eq main_v28 main_v26
  let main_v30 : IVec S4096x4096 1 := noti main_v29
  let main_v31 : IVec S4096x4096 1 := andi main_v24 main_v30
  let main_v32 : IVec S4096x4096 1 := noti main_v24
  let main_c_6 : IVec S_ 1 := constantI S_ 1 0#1
  let main_v33 : IVec S4096 1 := (fun x v => Host.reduce IntOp.ori x v reducesTo_S4096x4096_S4096_d1 h_S_) main_v31 main_c_6
  let main_v34 : IVec S4096 1 := noti main_v33
  let main_cst_7 : FVec F S_ .f32 := constant S_ .f32 0x3BA40000#32
  let main_v35 : FVec F S4096x4096 .f32 := broadcastInDim S4096x4096 ![] bcast_S_S4096x4096 main_cst_7
  let main_v36 : IVec S4096x4096 1 := cmpf .ogt main_v19 main_v35
  let main_v37 : IVec S4096x4096 1 := andi main_v31 main_v36
  fn_part2 (F := F) main_arg0 main_v4 main_v8 main_v12 main_v19 main_v31 main_v32 main_v34 main_v37

def fn {F : FTy → Type} [FloatOps F] (main_arg0 : FVec F S4096x512 .f32) (main_arg1 : IVec S4096 32) (main_arg2 : FVec F S4096x3 .f32) (main_arg3 : FVec F S4096x512 .f32) : IVec S4096 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 256#32
  let main_v2 : IVec S4096 32 := broadcastInDim S4096 ![] bcast_S_S4096 main_c_0
  let main_v3 : IVec S4096 1 := cmpi .slt main_arg1 main_v2
  let main_v4 : IVec S4096 1 := andi main_v1 main_v3
  let main_v5 : FVec F S4096x3 .f32 := Host.absf main_arg2
  let main_cst : FVec F S_ .f32 := constant S_ .f32 0x3F800000#32
  let main_v6 : FVec F S4096x3 .f32 := broadcastInDim S4096x3 ![] bcast_S_S4096x3 main_cst
  let main_v7 : IVec S4096x3 1 := cmpf .ole main_v5 main_v6
  let main_c_1 : IVec S_ 1 := constantI S_ 1 1#1
  let main_v8 : IVec S4096 1 := (fun x v => Host.reduce IntOp.andi x v reducesTo_S4096x3_S4096_d1 h_S_) main_v7 main_c_1
  let main_v9 : FVec F S4096x512 .f32 := Host.absf main_arg0
  let main_cst_2 : FVec F S_ .f32 := constant S_ .f32 0x53800000#32
  let main_v10 : FVec F S4096x512 .f32 := broadcastInDim S4096x512 ![] bcast_S_S4096x512 main_cst_2
  let main_v11 : IVec S4096x512 1 := cmpf .ole main_v9 main_v10
  let main_c_3 : IVec S_ 1 := constantI S_ 1 1#1
  let main_v12 : IVec S4096 1 := (fun x v => Host.reduce IntOp.andi x v reducesTo_S4096x512_S4096_d1 h_S_) main_v11 main_c_3
  let main_v13 : FVec F S4096x1x3 .f32 := broadcastInDim S4096x1x3 ![0, 2] bcast_S4096x3_S4096x1x3_0_2 main_arg2
  let main_v14 : FVec F S1x4096x3 .f32 := broadcastInDim S1x4096x3 ![1, 2] bcast_S4096x3_S1x4096x3_1_2 main_arg2
  let main_v15 : FVec F S4096x4096x3 .f32 := broadcastInDim S4096x4096x3 ![0, 1, 2] bcast_S4096x1x3_S4096x4096x3_0_1_2 main_v13
  let main_v16 : FVec F S4096x4096x3 .f32 := broadcastInDim S4096x4096x3 ![0, 1, 2] bcast_S1x4096x3_S4096x4096x3_0_1_2 main_v14
  let main_v17 : FVec F S4096x4096x3 .f32 := subf main_v15 main_v16
  fn_part1 (F := F) main_arg0 main_arg1 main_v4 main_v8 main_v12 main_v17
-- ==== Kernel.lean ====
abbrev S4096x512 : Shape := ⟨2, ![4096, 512]⟩
abbrev S4096 : Shape := ⟨1, ![4096]⟩
abbrev S4096x3 : Shape := ⟨2, ![4096, 3]⟩
abbrev S_ : Shape := ⟨0, ![]⟩
abbrev S4096x1 : Shape := ⟨2, ![4096, 1]⟩
abbrev S4096x7 : Shape := ⟨2, ![4096, 7]⟩
abbrev S4096x16 : Shape := ⟨2, ![4096, 16]⟩
abbrev S16x4096 : Shape := ⟨2, ![16, 4096]⟩
abbrev S1x1 : Shape := ⟨2, ![1, 1]⟩
abbrev S256x512 : Shape := ⟨2, ![256, 512]⟩
abbrev S3 : Shape := ⟨1, ![3]⟩
abbrev S1 : Shape := ⟨1, ![1]⟩
abbrev S4096x256 : Shape := ⟨2, ![4096, 256]⟩
abbrev S16x256 : Shape := ⟨2, ![16, 256]⟩
abbrev S256 : Shape := ⟨1, ![256]⟩
abbrev S1x256 : Shape := ⟨2, ![1, 256]⟩
abbrev S1x512 : Shape := ⟨2, ![1, 512]⟩
abbrev S256x1 : Shape := ⟨2, ![256, 1]⟩
abbrev S1x1x256 : Shape := ⟨3, ![1, 1, 256]⟩
abbrev S1x1x1 : Shape := ⟨3, ![1, 1, 1]⟩
abbrev S1x256x1 : Shape := ⟨3, ![1, 256, 1]⟩

abbrev nBuf : Space → Nat
  | .hbm => 87
  | .vmem => 7
  | .smem => 2
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x3, .f32⟩
  | .hbm, ⟨3, _⟩ => ⟨S4096x512, .f32⟩
  | .hbm, ⟨4, _⟩ => ⟨S4096x3, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S_, .f32⟩
  | .hbm, ⟨11, _⟩ => ⟨S4096x7, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S_, .i32⟩
  | .hbm, ⟨27, _⟩ => ⟨S_, .i1⟩
  | .hbm, ⟨28, _⟩ => ⟨S4096, .i1⟩
  | .hbm, ⟨29, _⟩ => ⟨S4096, .i1⟩
  | .hbm, ⟨30, _⟩ => ⟨S4096, .i1⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .i32⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S4096, .i32⟩
  | .hbm, ⟨47, _⟩ => ⟨S4096, .i32⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S4096, .i1⟩
  | .hbm, ⟨52, _⟩ => ⟨S_, .i32⟩
  | .hbm, ⟨53, _⟩ => ⟨S4096, .i32⟩
  | .hbm, ⟨54, _⟩ => ⟨S4096, .i32⟩
  | .hbm, ⟨55, _⟩ => ⟨S4096, .i32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096, .f32⟩
  | .hbm, ⟨61, _⟩ => ⟨S4096x1, .f32⟩
  | .hbm, ⟨62, _⟩ => ⟨S4096, .f32⟩
  | .hbm, ⟨63, _⟩ => ⟨S4096x1, .f32⟩
  | .hbm, ⟨64, _⟩ => ⟨S4096, .f32⟩
  | .hbm, ⟨65, _⟩ => ⟨S4096x1, .f32⟩
  | .hbm, ⟨66, _⟩ => ⟨S4096, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S4096x16, .f32⟩
  | .hbm, ⟨81, _⟩ => ⟨S_, .f32⟩
  | .hbm, ⟨82, _⟩ => ⟨S4096x3, .f32⟩
  | .hbm, ⟨83, _⟩ => ⟨S4096x3, .f32⟩
  | .hbm, ⟨84, _⟩ => ⟨S4096x16, .f32⟩
  | .hbm, ⟨85, _⟩ => ⟨S16x4096, .f32⟩
  | .hbm, ⟨86, _⟩ => ⟨S1x1, .f32⟩
  | .local _ .vmem, ⟨0, _⟩ => ⟨S4096x512, .f32⟩
  | .local _ .vmem, ⟨1, _⟩ => ⟨S256x512, .f32⟩
  | .local _ .vmem, ⟨2, _⟩ => ⟨S256x512, .f32⟩
  | .local _ .vmem, ⟨3, _⟩ => ⟨S4096x16, .f32⟩
  | .local _ .vmem, ⟨4, _⟩ => ⟨S16x4096, .f32⟩
  | .local _ .vmem, ⟨5, _⟩ => ⟨S4096x1, .f32⟩
  | .local _ .vmem, ⟨6, _⟩ => ⟨S4096x1, .f32⟩
  | .local _ .smem, ⟨0, _⟩ => ⟨S1x1, .f32⟩
  | .local _ .smem, ⟨1, _⟩ => ⟨S3, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v5 : Ref sig .tc := ⟨.hbm, 33, rfl⟩
abbrev main_v6 : Ref sig .tc := ⟨.hbm, 34, rfl⟩
abbrev main_cst_2 : Ref sig .tc := ⟨.hbm, 35, rfl⟩
abbrev main_v7 : Ref sig .tc := ⟨.hbm, 36, rfl⟩
abbrev main_v8 : Ref sig .tc := ⟨.hbm, 37, rfl⟩
abbrev main_c_3 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v9 : Ref sig .tc := ⟨.hbm, 55, rfl⟩
abbrev main_v10 : Ref sig .tc := ⟨.hbm, 56, rfl⟩
abbrev main_cst_4 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_cst_5 : Ref sig .tc := ⟨.hbm, 68, rfl⟩
abbrev main_v21 : Ref sig .tc := ⟨.hbm, 69, rfl⟩
abbrev main_v22 : Ref sig .tc := ⟨.hbm, 70, rfl⟩
abbrev main_cst_6 : Ref sig .tc := ⟨.hbm, 71, rfl⟩
abbrev main_v23 : Ref sig .tc := ⟨.hbm, 72, rfl⟩
abbrev main_v24 : Ref sig .tc := ⟨.hbm, 73, rfl⟩
abbrev main_cst_7 : Ref sig .tc := ⟨.hbm, 74, rfl⟩
abbrev main_v25 : Ref sig .tc := ⟨.hbm, 75, rfl⟩
abbrev main_v26 : Ref sig .tc := ⟨.hbm, 76, rfl⟩
abbrev main_cst_8 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_cst_9 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_stg4_0 : Ref sig .tc := ⟨.smem, 0, rfl⟩
abbrev cc0_scratch2 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c256_i32 : BitVec 32 := 256#32
  let v0 : BitVec 32 := Scalar.muli arg0 c256_i32
  let v4 : Index := Scalar.indexCast v0
  let c0 : Index := 0#32
  ![v4.toNat, 0]
def k0_off2 (i : grid0.Coords) : Fin 2 → Nat :=
  let c0_5 : Index := 0#32
  let arg0 : BitVec 32 := BitVec.ofNat 32 (i 0).val
  let c256_i32 : BitVec 32 := 256#32
  let v0 : BitVec 32 := Scalar.muli arg0 c256_i32
  let v10 : Index := Scalar.indexCast v0
  ![0, v10.toNat]
def k0_off3 (i : grid0.Coords) : Fin 2 → Nat :=
  let arg0 : BitVec 32 := BitVec.ofNat 32 (i 0).val
  let c256_i32 : BitVec 32 := 256#32
  let v0 : BitVec 32 := Scalar.muli arg0 c256_i32
  let v77 : Index := Scalar.indexCast v0
  let c0_36 : Index := 0#32
  ![v77.toNat, 0]
def k0_cond2 (i : grid0.Coords) : BitVec 1 :=
  let arg0 : BitVec 32 := BitVec.ofNat 32 (i 0).val
  let c15_i32 : BitVec 32 := 15#32
  let v109 : BitVec 1 := Scalar.cmpi .eq arg0 c15_i32
  let v110 : BitVec 32 := Scalar.extui v109
  let c0_i32_46 : BitVec 32 := 0#32
  let v111 : BitVec 1 := Scalar.cmpi .ne v110 c0_i32_46
  v111

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x512 : Shape := ⟨2, ![4096, 512]⟩
abbrev S4096 : Shape := ⟨1, ![4096]⟩
abbrev S4096x3 : Shape := ⟨2, ![4096, 3]⟩
abbrev S4096x1x3 : Shape := ⟨3, ![4096, 1, 3]⟩
abbrev S1x4096x3 : Shape := ⟨3, ![1, 4096, 3]⟩
abbrev S4096x4096x3 : Shape := ⟨3, ![4096, 4096, 3]⟩
abbrev S_ : Shape := ⟨0, ![]⟩
abbrev S4096x4096 : Shape := ⟨2, ![4096, 4096]⟩
abbrev S4096x1 : Shape := ⟨2, ![4096, 1]⟩
abbrev S1x4096 : Shape := ⟨2, ![1, 4096]⟩
abbrev S512x4096 : Shape := ⟨2, ![512, 4096]⟩
abbrev S1 : Shape := ⟨1, ![1]⟩
abbrev S1x1 : Shape := ⟨2, ![1, 1]⟩
abbrev S4096x2 : Shape := ⟨2, ![4096, 2]⟩

abbrev nBuf : Space → Nat
  | .hbm => 237
  | .vmem => 0
  | .smem => 0
  | _ => 0

abbrev hbmTy0_0 (i : Nat) : BufTy := match i % 128 with
  | 0 => ⟨S4096x512, .f32⟩
  | 1 => ⟨S4096, .i32⟩
  | 2 => ⟨S4096x3, .f32⟩
  | 3 => ⟨S4096x512, .f32⟩
  | 4 => ⟨S4096x1x3, .f32⟩
  | 5 => ⟨S1x4096x3, .f32⟩
  | 6 => ⟨S4096x4096x3, .f32⟩
  | 7 => ⟨S4096x4096x3, .f32⟩
  | 8 => ⟨S4096x4096x3, .f32⟩
  | 9 => ⟨S4096x4096x3, .f32⟩
  | 10 => ⟨S_, .f32⟩
  | 11 => ⟨S4096x4096, .f32⟩
  | 12 => ⟨S_, .f32⟩
  | 13 => ⟨S4096x4096, .f32⟩
  | 14 => ⟨S4096x4096, .f32⟩
  | 15 => ⟨S4096x4096, .f32⟩
  | 16 => ⟨S4096x1, .i32⟩
  | 17 => ⟨S1x4096, .i32⟩
  | 18 => ⟨S4096x4096, .i32⟩
  | 19 => ⟨S4096x4096, .i32⟩
  | 20 => ⟨S4096x4096, .i1⟩
  | 21 => ⟨S4096x4096, .i32⟩
  | 22 => ⟨S4096x4096, .i32⟩
  | 23 => ⟨S_, .i32⟩
  | 24 => ⟨S4096x4096, .i32⟩
  | 25 => ⟨S4096x4096, .i32⟩
  | 26 => ⟨S4096x4096, .i1⟩
  | 27 => ⟨S4096x4096, .i1⟩
  | 28 => ⟨S4096x4096, .i1⟩
  | 29 => ⟨S_, .i1⟩
  | 30 => ⟨S4096, .i1⟩
  | 31 => ⟨S_, .f32⟩
  | 32 => ⟨S4096x4096, .f32⟩
  | 33 => ⟨S4096x4096, .f32⟩
  | 34 => ⟨S4096x4096, .i32⟩
  | 35 => ⟨S_, .f32⟩
  | 36 => ⟨S_, .i32⟩
  | 37 => ⟨S4096, .f32⟩
  | 38 => ⟨S4096, .i32⟩
  | 39 => ⟨S4096x4096, .i1⟩
  | 40 => ⟨S_, .i1⟩
  | 41 => ⟨S4096, .i1⟩
  | 42 => ⟨S_, .f32⟩
  | 43 => ⟨S4096x4096, .f32⟩
  | 44 => ⟨S4096x4096, .i1⟩
  | 45 => ⟨S4096x4096, .i1⟩
  | 46 => ⟨S_, .i1⟩
  | 47 => ⟨S4096, .i1⟩
  | 48 => ⟨S4096x512, .f32⟩
  | 49 => ⟨S_, .f32⟩
  | 50 => ⟨S4096, .f32⟩
  | 51 => ⟨S4096x1, .f32⟩
  | 52 => ⟨S4096x1, .f32⟩
  | 53 => ⟨S_, .f32⟩
  | 54 => ⟨S4096x1, .f32⟩
  | 55 => ⟨S4096x1, .f32⟩
  | 56 => ⟨S4096x512, .f32⟩
  | 57 => ⟨S4096x512, .f32⟩
  | 58 => ⟨S512x4096, .f32⟩
  | 59 => ⟨S4096x4096, .f32⟩
  | 60 => ⟨S_, .f32⟩
  | 61 => ⟨S4096x4096, .f32⟩
  | 62 => ⟨S4096x4096, .f32⟩
  | 63 => ⟨S4096x4096, .i32⟩
  | 64 => ⟨S_, .f32⟩
  | 65 => ⟨S_, .i32⟩
  | 66 => ⟨S4096, .f32⟩
  | 67 => ⟨S4096, .i32⟩
  | 68 => ⟨S_, .f32⟩
  | 69 => ⟨S4096x4096, .f32⟩
  | 70 => ⟨S4096x4096, .f32⟩
  | 71 => ⟨S4096x4096, .i32⟩
  | 72 => ⟨S_, .f32⟩
  | 73 => ⟨S_, .i32⟩
  | 74 => ⟨S4096, .f32⟩
  | 75 => ⟨S4096, .i32⟩
  | 76 => ⟨S4096, .i32⟩
  | 77 => ⟨S4096, .i1⟩
  | 78 => ⟨S4096, .f32⟩
  | 79 => ⟨S4096, .i32⟩
  | 80 => ⟨S_, .i32⟩
  | 81 => ⟨S4096, .i32⟩
  | 82 => ⟨S4096, .i1⟩
  | 83 => ⟨S_, .i32⟩
  | 84 => ⟨S4096, .i32⟩
  | 85 => ⟨S4096, .i32⟩
  | 86 => ⟨S4096, .i32⟩
  | 87 => ⟨S4096x1, .i32⟩
  | 88 => ⟨S1, .i32⟩
  | 89 => ⟨S_, .i32⟩
  | 90 => ⟨S4096x1, .i32⟩
  | 91 => ⟨S4096x1, .i1⟩
  | 92 => ⟨S1x1, .i32⟩
  | 93 => ⟨S4096x1, .i32⟩
  | 94 => ⟨S4096x1, .i1⟩
  | 95 => ⟨S4096x1, .i1⟩
  | 96 => ⟨S_, .i1⟩
  | 97 => ⟨S4096, .i1⟩
  | 98 => ⟨S4096x512, .f32⟩
  | 99 => ⟨S4096x512, .i1⟩
  | 100 => ⟨S_, .f32⟩
  | 101 => ⟨S4096x512, .f32⟩
  | 102 => ⟨S4096x512, .f32⟩
  | 103 => ⟨S_, .i32⟩
  | 104 => ⟨S4096, .i32⟩
  | 105 => ⟨S4096, .i1⟩
  | 106 => ⟨S_, .i32⟩
  | 107 => ⟨S4096, .i32⟩
  | 108 => ⟨S4096, .i32⟩
  | 109 => ⟨S4096, .i32⟩
  | 110 => ⟨S4096x1, .i32⟩
  | 111 => ⟨S1, .i32⟩
  | 112 => ⟨S_, .i32⟩
  | 113 => ⟨S4096x1, .i32⟩
  | 114 => ⟨S4096x1, .i1⟩
  | 115 => ⟨S1x1, .i32⟩
  | 116 => ⟨S4096x1, .i32⟩
  | 117 => ⟨S4096x1, .i1⟩
  | 118 => ⟨S4096x1, .i1⟩
  | 119 => ⟨S_, .i1⟩
  | 120 => ⟨S4096, .i1⟩
  | 121 => ⟨S4096x512, .f32⟩
  | 122 => ⟨S4096x512, .i1⟩
  | 123 => ⟨S_, .f32⟩
  | 124 => ⟨S4096x512, .f32⟩
  | 125 => ⟨S4096x512, .f32⟩
  | 126 => ⟨S4096x512, .f32⟩
  | 127 => ⟨S4096x512, .f32⟩
  | _ => ⟨S4096x512, .f32⟩

abbrev hbmTy0_1 (i : Nat) : BufTy := match i % 128 with
  | 0 => ⟨S_, .f32⟩
  | 1 => ⟨S4096, .f32⟩
  | 2 => ⟨S_, .f32⟩
  | 3 => ⟨S4096, .f32⟩
  | 4 => ⟨S4096, .f32⟩
  | 5 => ⟨S4096, .f32⟩
  | 6 => ⟨S4096x512, .f32⟩
  | 7 => ⟨S4096x512, .f32⟩
  | 8 => ⟨S_, .f32⟩
  | 9 => ⟨S4096, .f32⟩
  | 10 => ⟨S_, .f32⟩
  | 11 => ⟨S4096, .f32⟩
  | 12 => ⟨S4096, .f32⟩
  | 13 => ⟨S4096, .f32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S_, .i32⟩
  | 22 => ⟨S4096, .i32⟩
  | 23 => ⟨S4096, .i1⟩
  | 24 => ⟨S_, .i32⟩
  | 25 => ⟨S4096, .i32⟩
  | 26 => ⟨S4096, .i32⟩
  | 27 => ⟨S4096, .i32⟩
  | 28 => ⟨S4096x1, .i32⟩
  | 29 => ⟨S4096x1, .i32⟩
  | 30 => ⟨S4096x2, .i32⟩
  | 31 => ⟨S4096, .f32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S_, .i32⟩
  | 40 => ⟨S4096, .i32⟩
  | 41 => ⟨S4096, .i1⟩
  | 42 => ⟨S_, .i32⟩
  | 43 => ⟨S4096, .i32⟩
  | 44 => ⟨S4096, .i32⟩
  | 45 => ⟨S4096, .i32⟩
  | 46 => ⟨S4096x1, .i32⟩
  | 47 => ⟨S4096x1, .i32⟩
  | 48 => ⟨S4096x2, .i32⟩
  | 49 => ⟨S4096, .f32⟩
  | 50 => ⟨S_, .f32⟩
  | 51 => ⟨S4096, .f32⟩
  | 52 => ⟨S4096, .i1⟩
  | 53 => ⟨S_, .f32⟩
  | 54 => ⟨S_, .f32⟩
  | 55 => ⟨S4096, .f32⟩
  | 56 => ⟨S4096, .f32⟩
  | 57 => ⟨S4096, .f32⟩
  | 58 => ⟨S_, .f32⟩
  | 59 => ⟨S4096, .f32⟩
  | 60 => ⟨S4096, .i1⟩
  | 61 => ⟨S_, .f32⟩
  | 62 => ⟨S_, .f32⟩
  | 63 => ⟨S4096, .f32⟩
  | 64 => ⟨S4096, .f32⟩
  | 65 => ⟨S4096, .f32⟩
  | 66 => ⟨S4096, .f32⟩
  | 67 => ⟨S4096, .f32⟩
  | 68 => ⟨S_, .f32⟩
  | 69 => ⟨S4096, .f32⟩
  | 70 => ⟨S4096, .f32⟩
  | 71 => ⟨S_, .f32⟩
  | 72 => ⟨S4096, .f32⟩
  | 73 => ⟨S4096, .f32⟩
  | 74 => ⟨S4096, .f32⟩
  | 75 => ⟨S4096, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S4096x512, .f32⟩
  | 84 => ⟨S_, .f32⟩
  | 85 => ⟨S4096, .f32⟩
  | 86 => ⟨S4096x512, .f32⟩
  | 87 => ⟨S_, .f32⟩
  | 88 => ⟨S4096, .f32⟩
  | 89 => ⟨S4096, .f32⟩
  | 90 => ⟨S4096x512, .f32⟩
  | 91 => ⟨S_, .f32⟩
  | 92 => ⟨S4096, .f32⟩
  | 93 => ⟨S4096, .f32⟩
  | 94 => ⟨S4096, .f32⟩
  | 95 => ⟨S_, .f32⟩
  | 96 => ⟨S4096, .f32⟩
  | 97 => ⟨S4096, .f32⟩
  | 98 => ⟨S4096, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S1x1, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_cst_2 : Ref sig .tc := ⟨.hbm, 31, rfl⟩
abbrev main_call0_v0 : Ref sig .tc := ⟨.hbm, 32, rfl⟩
abbrev main_v23 : Ref sig .tc := ⟨.hbm, 33, rfl⟩
abbrev main_call1_v0 : Ref sig .tc := ⟨.hbm, 34, rfl⟩
abbrev main_call1_cst : Ref sig .tc := ⟨.hbm, 35, rfl⟩
abbrev main_call1_c : Ref sig .tc := ⟨.hbm, 36, rfl⟩
abbrev main_call1_v1_0 : Ref sig .tc := ⟨.hbm, 37, rfl⟩
abbrev main_v24 : Ref sig .tc := ⟨.hbm, 38, rfl⟩
abbrev main_v25 : Ref sig .tc := ⟨.hbm, 39, rfl⟩
abbrev main_c_3 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_call2_v0 : Ref sig .tc := ⟨.hbm, 48, rfl⟩
abbrev main_call2_cst : Ref sig .tc := ⟨.hbm, 49, rfl⟩
abbrev main_call2_v1 : Ref sig .tc := ⟨.hbm, 50, rfl⟩
abbrev main_call2_v2 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_call3_v0 : Ref sig .tc := ⟨.hbm, 61, rfl⟩
abbrev main_v38 : Ref sig .tc := ⟨.hbm, 62, rfl⟩
abbrev main_call4_v0 : Ref sig .tc := ⟨.hbm, 63, rfl⟩
abbrev main_call4_cst : Ref sig .tc := ⟨.hbm, 64, rfl⟩
abbrev main_call4_c : Ref sig .tc := ⟨.hbm, 65, rfl⟩
abbrev main_call4_v1_0 : Ref sig .tc := ⟨.hbm, 66, rfl⟩
abbrev main_v39 : Ref sig .tc := ⟨.hbm, 67, rfl⟩
abbrev main_cst_8 : Ref sig .tc := ⟨.hbm, 68, rfl⟩
abbrev main_call5_v0 : Ref sig .tc := ⟨.hbm, 69, rfl⟩
abbrev main_v40 : Ref sig .tc := ⟨.hbm, 70, rfl⟩
abbrev main_call6_v0 : Ref sig .tc := ⟨.hbm, 71, rfl⟩
abbrev main_call6_cst : Ref sig .tc := ⟨.hbm, 72, rfl⟩
abbrev main_call6_c : Ref sig .tc := ⟨.hbm, 73, rfl⟩
abbrev main_call6_v1_0 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_call8_c : Ref sig .tc := ⟨.hbm, 80, rfl⟩
abbrev main_call8_v0 : Ref sig .tc := ⟨.hbm, 81, rfl⟩
abbrev main_call8_v1 : Ref sig .tc := ⟨.hbm, 82, rfl⟩
abbrev main_call8_c_0 : Ref sig .tc := ⟨.hbm, 83, rfl⟩
abbrev main_call8_v2 : Ref sig .tc := ⟨.hbm, 84, rfl⟩
abbrev main_call8_v3 : Ref sig .tc := ⟨.hbm, 85, rfl⟩
abbrev main_call8_v4 : Ref sig .tc := ⟨.hbm, 86, rfl⟩
abbrev main_call8_v5 : Ref sig .tc := ⟨.hbm, 87, rfl⟩
abbrev main_call8_c_1 : Ref sig .tc := ⟨.hbm, 88, rfl⟩
abbrev main_call8_c_2 : Ref sig .tc := ⟨.hbm, 89, rfl⟩
abbrev main_call8_v6 : Ref sig .tc := ⟨.hbm, 90, rfl⟩
abbrev main_call8_v7 : Ref sig .tc := ⟨.hbm, 91, rfl⟩
abbrev main_call8_v8 : Ref sig .tc := ⟨.hbm, 92, rfl⟩
abbrev main_call8_v9 : Ref sig .tc := ⟨.hbm, 93, rfl⟩
abbrev main_call8_v10 : Ref sig .tc := ⟨.hbm, 94, rfl⟩
abbrev main_call8_v11 : Ref sig .tc := ⟨.hbm, 95, rfl⟩
abbrev main_call8_c_3 : Ref sig .tc := ⟨.hbm, 96, rfl⟩
abbrev main_call8_v12 : Ref sig .tc := ⟨.hbm, 97, rfl⟩
abbrev main_call8_v13 : Ref sig .tc := ⟨.hbm, 98, rfl⟩
abbrev main_call8_v14 : Ref sig .tc := ⟨.hbm, 99, rfl⟩
abbrev main_call8_cst : Ref sig .tc := ⟨.hbm, 100, rfl⟩
abbrev main_call8_v15 : Ref sig .tc := ⟨.hbm, 101, rfl⟩
abbrev main_v46 : Ref sig .tc := ⟨.hbm, 102, rfl⟩
abbrev main_call9_c : Ref sig .tc := ⟨.hbm, 103, rfl⟩
abbrev main_call9_v0 : Ref sig .tc := ⟨.hbm, 104, rfl⟩
abbrev main_call9_v1 : Ref sig .tc := ⟨.hbm, 105, rfl⟩
abbrev main_call9_c_0 : Ref sig .tc := ⟨.hbm, 106, rfl⟩
abbrev main_call9_v2 : Ref sig .tc := ⟨.hbm, 107, rfl⟩
abbrev main_call9_v3 : Ref sig .tc := ⟨.hbm, 108, rfl⟩
abbrev main_call9_v4 : Ref sig .tc := ⟨.hbm, 109, rfl⟩
abbrev main_call9_v5 : Ref sig .tc := ⟨.hbm, 110, rfl⟩
abbrev main_call9_c_1 : Ref sig .tc := ⟨.hbm, 111, rfl⟩
abbrev main_call9_c_2 : Ref sig .tc := ⟨.hbm, 112, rfl⟩
abbrev main_call9_v6 : Ref sig .tc := ⟨.hbm, 113, rfl⟩
abbrev main_call9_v7 : Ref sig .tc := ⟨.hbm, 114, rfl⟩
abbrev main_call9_v8 : Ref sig .tc := ⟨.hbm, 115, rfl⟩
abbrev main_call9_v9 : Ref sig .tc := ⟨.hbm, 116, rfl⟩
abbrev main_call9_v10 : Ref sig .tc := ⟨.hbm, 117, rfl⟩
abbrev main_call9_v11 : Ref sig .tc := ⟨.hbm, 118, rfl⟩
abbrev main_call9_c_3 : Ref sig .tc := ⟨.hbm, 119, rfl⟩
abbrev main_call9_v12 : Ref sig .tc := ⟨.hbm, 120, rfl⟩
abbrev main_call9_v13 : Ref sig .tc := ⟨.hbm, 121, rfl⟩
abbrev main_call9_v14 : Ref sig .tc := ⟨.hbm, 122, rfl⟩
abbrev main_call9_cst : Ref sig .tc := ⟨.hbm, 123, rfl⟩
abbrev main_call9_v15 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_cst_9 : Ref sig .tc := ⟨.hbm, 128, rfl⟩
abbrev main_v50 : Ref sig .tc := ⟨.hbm, 129, rfl⟩
abbrev main_cst_10 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_cst_11 : Ref sig .tc := ⟨.hbm, 136, rfl⟩
abbrev main_v56 : Ref sig .tc := ⟨.hbm, 137, rfl⟩
abbrev main_cst_12 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_c_13 : Ref sig .tc := ⟨.hbm, 142, rfl⟩
abbrev main_v60 : Ref sig .tc := ⟨.hbm, 143, rfl⟩
abbrev main_v61 : Ref sig .tc := ⟨.hbm, 144, rfl⟩
abbrev main_c_14 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_c_15 : Ref sig .tc := ⟨.hbm, 149, rfl⟩
abbrev main_v65 : Ref sig .tc := ⟨.hbm, 150, rfl⟩
abbrev main_v66 : Ref sig .tc := ⟨.hbm, 151, rfl⟩
abbrev main_c_16 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_c_17 : Ref sig .tc := ⟨.hbm, 160, rfl⟩
abbrev main_v74 : Ref sig .tc := ⟨.hbm, 161, rfl⟩
abbrev main_v75 : Ref sig .tc := ⟨.hbm, 162, rfl⟩
abbrev main_c_18 : Ref sig .tc := ⟨.hbm, 163, rfl⟩
abbrev main_v76 : Ref sig .tc := ⟨.hbm, 164, rfl⟩
abbrev main_v77 : Ref sig .tc := ⟨.hbm, 165, rfl⟩
abbrev main_v78 : Ref sig .tc := ⟨.hbm, 166, rfl⟩
abbrev main_c_19 : Ref sig .tc := ⟨.hbm, 167, rfl⟩
abbrev main_v79 : Ref sig .tc := ⟨.hbm, 168, rfl⟩
abbrev main_v80 : Ref sig .tc := ⟨.hbm, 169, rfl⟩
abbrev main_c_20 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_cst_21 : Ref sig .tc := ⟨.hbm, 178, rfl⟩
abbrev main_v88 : Ref sig .tc := ⟨.hbm, 179, rfl⟩
abbrev main_v89 : Ref sig .tc := ⟨.hbm, 180, rfl⟩
abbrev main_cst_22 : Ref sig .tc := ⟨.hbm, 181, rfl⟩
abbrev main_cst_23 : Ref sig .tc := ⟨.hbm, 182, rfl⟩
abbrev main_call10_v0 : Ref sig .tc := ⟨.hbm, 183, rfl⟩
abbrev main_call10_v1 : Ref sig .tc := ⟨.hbm, 184, rfl⟩
abbrev main_v90 : Ref sig .tc := ⟨.hbm, 185, rfl⟩
abbrev main_cst_24 : Ref sig .tc := ⟨.hbm, 186, rfl⟩
abbrev main_v91 : Ref sig .tc := ⟨.hbm, 187, rfl⟩
abbrev main_v92 : Ref sig .tc := ⟨.hbm, 188, rfl⟩
abbrev main_cst_25 : Ref sig .tc := ⟨.hbm, 189, rfl⟩
abbrev main_cst_26 : Ref sig .tc := ⟨.hbm, 190, rfl⟩
abbrev main_call11_v0 : Ref sig .tc := ⟨.hbm, 191, rfl⟩
abbrev main_call11_v1 : Ref sig .tc := ⟨.hbm, 192, rfl⟩
abbrev main_v93 : Ref sig .tc := ⟨.hbm, 193, rfl⟩
abbrev main_v94 : Ref sig .tc := ⟨.hbm, 194, rfl⟩
abbrev main_v95 : Ref sig .tc := ⟨.hbm, 195, rfl⟩
abbrev main_cst_27 : Ref sig .tc := ⟨.hbm, 196, rfl⟩
abbrev main_v96 : Ref sig .tc := ⟨.hbm, 197, rfl⟩
abbrev main_v97 : Ref sig .tc := ⟨.hbm, 198, rfl⟩
abbrev main_call12_cst : Ref sig .tc := ⟨.hbm, 199, rfl⟩
abbrev main_call12_v0 : Ref sig .tc := ⟨.hbm, 200, rfl⟩
abbrev main_v98 : Ref sig .tc := ⟨.hbm, 201, rfl⟩
abbrev main_v99 : Ref sig .tc := ⟨.hbm, 202, rfl⟩
abbrev main_v100 : Ref sig .tc := ⟨.hbm, 203, rfl⟩
abbrev main_cst_28 : Ref sig .tc := ⟨.hbm, 204, rfl⟩
abbrev main_v101 : Ref sig .tc := ⟨.hbm, 205, rfl⟩
abbrev main_cst_29 : Ref sig .tc := ⟨.hbm, 206, rfl⟩
abbrev main_v102 : Ref sig .tc := ⟨.hbm, 207, rfl⟩
abbrev main_cst_30 : Ref sig .tc := ⟨.hbm, 208, rfl⟩
abbrev main_v103 : Ref sig .tc := ⟨.hbm, 209, rfl⟩
abbrev main_v104 : Ref sig .tc := ⟨.hbm, 210, rfl⟩
abbrev main_v105 : Ref sig .tc := ⟨.hbm, 211, rfl⟩
abbrev main_cst_31 : Ref sig .tc := ⟨.hbm, 212, rfl⟩
abbrev main_v106 : Ref sig .tc := ⟨.hbm, 213, rfl⟩
abbrev main_call13_v0 : Ref sig .tc := ⟨.hbm, 214, rfl⟩
abbrev main_call13_cst : Ref sig .tc := ⟨.hbm, 215, rfl⟩
abbrev main_call13_v1 : Ref sig .tc := ⟨.hbm, 216, rfl⟩
abbrev main_v107 : Ref sig .tc := ⟨.hbm, 217, rfl⟩
abbrev main_call14_v0 : Ref sig .tc := ⟨.hbm, 218, rfl⟩
abbrev main_call14_cst : Ref sig .tc := ⟨.hbm, 219, rfl⟩
abbrev main_call14_v1 : Ref sig .tc := ⟨.hbm, 220, rfl⟩
abbrev main_v108 : Ref sig .tc := ⟨.hbm, 221, rfl⟩
abbrev main_v109 : Ref sig .tc := ⟨.hbm, 222, rfl⟩
abbrev main_cst_32 : Ref sig .tc := ⟨.hbm, 223, rfl⟩
abbrev main_v110 : Ref sig .tc := ⟨.hbm, 224, rfl⟩
abbrev main_v111 : Ref sig .tc := ⟨.hbm, 225, rfl⟩
abbrev main_v112 : Ref sig .tc := ⟨.hbm, 226, rfl⟩
abbrev main_cst_33 : Ref sig .tc := ⟨.hbm, 227, rfl⟩
abbrev main_v113 : Ref sig .tc := ⟨.hbm, 228, rfl⟩
abbrev main_cst_34 : Ref sig .tc := ⟨.hbm, 229, rfl⟩
abbrev main_v114 : Ref sig .tc := ⟨.hbm, 230, rfl⟩
abbrev main_cst_35 : Ref sig .tc := ⟨.hbm, 231, rfl⟩
abbrev main_v115 : Ref sig .tc := ⟨.hbm, 232, rfl⟩
abbrev main_cst_36 : Ref sig .tc := ⟨.hbm, 233, rfl⟩
abbrev main_v116 : Ref sig .tc := ⟨.hbm, 234, rfl⟩
abbrev main_v117 : Ref sig .tc := ⟨.hbm, 235, rfl⟩
abbrev main_v118 : Ref sig .tc := ⟨.hbm, 236, rfl⟩

abbrev nD : Nat := 1
abbrev τ : Topo := Topo.v7x

variable {F : FTy → Type} [FloatOps F]
-- ==== Proof.RefRun.lean ====
/- The run of the reference program: its three windows of host operations as lists, and what a buffer holds after them. -/
module

public import proofs.«01_k».proof.Defs
public import proofs.«01_k».proof.Proof.Gen.ReferenceIdeal
public import proofs.«01_k».proof.Proof.Gen.Pre_admissible
public import Idealize.ShloMosaic.Lib.Claim
public import Idealize.ShloMosaic.Lib.Quiescent
public import Idealize.ShloMosaic.Lib.StableHlo.RunRead
public import Idealize.ShloMosaic.Lib.Pipeline.Frame

@[expose] public section

noncomputable section

open Idealize.ShloMosaic Idealize.SL.Sem Idealize.ShloMosaic.StableHlo

namespace Cert.Proof.RefRun

open Cert.ReferenceIdeal

attribute [local instance] Cert.ReferenceIdeal.Gen.facts

/-- The operations of the first window of the reference, with the fact that the window runs them in order. -/
def win0 : {l : List (HloOp τ sig (Elt Ideal)) // ∀ d, IsSeq (main_part0 (F := Ideal) d) l} := by
  apply Subtype.mk
  hlo_seq

/-- The operations of the second window, with the same fact. -/
def win1 : {l : List (HloOp τ sig (Elt Ideal)) // ∀ d, IsSeq (main_part1 (F := Ideal) d) l} := by
  apply Subtype.mk
  hlo_seq

/-- The operations of the third window, with the same fact. -/
def win2 : {l : List (HloOp τ sig (Elt Ideal)) // ∀ d, IsSeq (main_part2 (F := Ideal) d) l} := by
  apply Subtype.mk
  hlo_seq

/-- The whole reference runs the three windows' operations one after the other. -/
theorem main_seq (d : Dev nD) : IsSeq (main (F := Ideal) d) (win0.1 ++ (win1.1 ++ win2.1)) := by
  have h0 := win0.2 d
  have h1 := win1.2 d
  have h2 := win2.2 d
  unfold IsSeq at h0 h1 h2 ⊢
  rw [seq_append, seq_append, ← h0, ← h1, ← h2]
  rfl

/-- Each operation of the first window names buffers of the device only. -/
theorem bufs0 : win0.1.Forall fun op => op.bufs ⊆ tcRefs τ sig := by unfold win0; simp
theorem bufs1 : win1.1.Forall fun op => op.bufs ⊆ tcRefs τ sig := by unfold win1; simp
theorem bufs2 : win2.1.Forall fun op => op.bufs ⊆ tcRefs τ sig := by unfold win2; simp

theorem fresh0 : ∀ op ∈ win0.1, op.fresh = ∅ := by
  intro _ h; unfold win0 at h; (repeat (cases h with | head => rfl | tail _ h => ?_)); exact nomatch h
theorem fresh1 : ∀ op ∈ win1.1, op.fresh = ∅ := by
  intro _ h; unfold win1 at h; (repeat (cases h with | head => rfl | tail _ h => ?_)); exact nomatch h
theorem fresh2 : ∀ op ∈ win2.1, op.fresh = ∅ := by
  intro _ h; unfold win2 at h; (repeat (cases h with | head => rfl | tail _ h => ?_)); exact nomatch h

/-- Two lines of operations run one after the other. -/
theorem after_line (l k : List (HloOp τ sig (Elt Ideal))) (V : Valuation τ sig (Elt Ideal)) :
    after (l ++ k) V = after k (after l V) := by
  induction l generalizing V with
  | nil => rfl
  | cons op l ih => exact ih _

/-- What the buffers of device `d` hold at the end of the reference, from the memory `m`. -/
def final (m : (ℓ : Loc nD τ sig) → Buf (Elt Ideal) ℓ) (d : Dev nD) : Valuation τ sig (Elt Ideal) :=
  after win2.1 (after win1.1 (after win0.1 (launchContents m d)))

/-- The reference terminates, and each buffer of the device then holds what the three windows leave there. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = final m d (Proc.devRef .tc b) := by
  refine θ_run_mono (run_seq (by decide) (by decide) defs main (fun _ => win0.1 ++ (win1.1 ++ win2.1)) main_seq
    (fun _ => ?_) m ρ fun _ op h => ?_) fun r h d b => ?_
  · rw [List.forall_append, List.forall_append]
    exact ⟨bufs0, bufs1, bufs2⟩
  · rcases List.mem_append.1 h with h | h
    · exact fresh0 op h
    · rcases List.mem_append.1 h with h | h
      · exact fresh1 op h
      · exact fresh2 op h
  · rw [h d b, after_line, after_line]; rfl

/-- The reference leaves its four arguments as they were. -/
theorem final_args (m : (ℓ : Loc nD τ sig) → Buf (Elt Ideal) ℓ) (d : Dev nD) :
    final m d (Proc.devRef .tc main_arg0) = launchContents m d (Proc.devRef .tc main_arg0) ∧
      final m d (Proc.devRef .tc main_arg1) = launchContents m d (Proc.devRef .tc main_arg1)
      ∧
      final m d (Proc.devRef .tc main_arg2) = launchContents m d (Proc.devRef .tc main_arg2) ∧
      final m d (Proc.devRef .tc main_arg3) = launchContents m d (Proc.devRef .tc main_arg3) := by
  unfold final
  refine ⟨?_, ?_, ?_, ?_⟩ <;> after_reads_simp

/-- The reference returns on every launch and leaves its arguments as they were. -/
theorem frame_ri : Cert.quiescent_ReferenceIdeal (hReferenceIdeal := Cert.ReferenceIdeal.Gen.facts) := fun m ρ _ =>
  θ_run_mono (run m ρ) fun r h => ⟨fun d =>
    have e := final_args m d
    ⟨(h d _).trans e.1, (h d _).trans e.2.1, (h d _).trans e.2.2.1, (h d _).trans e.2.2.2⟩, sem_eq_zero_of_no_sems (by decide) _⟩

end Cert.Proof.RefRun

end
-- ==== Proof.Points.lean ====
/- What the kernel's grid points leave in its buffers. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 200000

noncomputable section

open Idealize.ShloMosaic Idealize.SL.Sem Idealize.ShloMosaic.TcCoe

namespace Cert.Proof.Krn

open Cert.KernelIdeal Cert.KernelIdeal.Gen

variable {F : FTy → Type} [FloatOps F]

/-! ## One point's quantities, over the arrays that the point reads -/

section point
variable (i : grid0.Coords) (x0 : Vec F S4096x512 .f32) (x1 : Vec F S256x512 .f32) (x2 : Vec F S4096x16 .f32) (x3 : Vec F S16x4096 .f32)

/-- The point's anchors: its rows of the features. -/
def anchors : Vec F S256x512 .f32 := View.ld x0 (Rect.unit (k0_off1 i) S256x512.size (k0_off1_inb i))

/-- The point's columns of the right key array. -/
def keyCols : Vec F S16x256 .f32 := View.ld x3 (Rect.unit (k0_off2 i) S16x256.size (k0_off2_inb i))

/-- The squared norms of the point's anchors. -/
def anchorSq : Vec F S256x1 .f32 := View.ld (k0_pay6 x0) (Rect.unit (s := S4096x1) (k0_off3 i) S256x1.size (k0_off3_inb i))

/-- Each anchor's largest positive key. -/
def posTop : FVec F S1x256 .f32 := k0_pay11 x2 (keyCols i x3)

/-- Each anchor's largest negative key. -/
def negTop : FVec F S1x256 .f32 := k0_pay14 (anchors i x0) x0 x2 (keyCols i x3) (k0_pay7 x0)

/-- Each anchor's validity. -/
def validRow : FVec F S1x256 .f32 := k0_pay15 (posTop i x2 x3) (negTop i x0 x2 x3)

/-- Each anchor's loss. -/
def lossRow : FVec F S1x256 .f32 :=
  k0_pay16 (anchors i x0) (k0_pay10 (anchors i x0) x0 (k0_pay6 x0)) (posTop i x2 x3) (k0_pay12 (anchors i x0) x0 x2 (keyCols i x3) (k0_pay6 x0))
    (k0_pay13 (anchors i x0) x0 x2 (keyCols i x3) (k0_pay7 x0)) (negTop i x0 x2 x3)

/-- The sum of losses after the point, over the sum before it. -/
def addLoss (a : F .f32) : F .f32 := k0_pay1 (lossRow i x0 x2 x3) a

/-- The number of valid rows after the point, over the number before it. -/
def addValid (a : F .f32) : F .f32 := k0_pay2 (validRow i x0 x2 x3) a

/-- The sum of reconstruction cosines after the point, over the sum before it. -/
def addRecon (a : F .f32) : F .f32 := k0_pay3 x1 (k0_pay17 (anchors i x0) x1) (anchorSq i x0) a

end point

/-- The three sums that the kernel carries. -/
def sums (a b c : F .f32) : Vec F S3 .f32 := fun j => if (j 0).val = 0 then a else if (j 0).val = 1 then b else c

/-- The index of a one-element rectangle of the sums. -/
theorem emb_one (k : ℕ) (inb : ∀ a, (![k] : Fin 1 → ℕ) a + S1.size a ≤ S3.size a) (x : S1.Idx) :
    (((Rect.unit (s := S3) ![k] S1.size inb).emb x) 0).val = k := by
  have h : (x 0).val < 1 := (x 0).isLt
  rw [ValueKit.rect_emb_unit_val]
  show k + (x 0).val = k
  omega

/-- The first sum, loaded. -/
theorem ld_sum0 (a b c : F .f32) (inb) (x : S1.Idx) : View.ld (Val := Elt F) (e' := .f32) (sums a b c) (Rect.unit (s := S3) ![0] S1.size inb) x = a :=
  if_pos (emb_one 0 inb x)

/-- The second sum, loaded. -/
theorem ld_sum1 (a b c : F .f32) (inb) (x : S1.Idx) : View.ld (Val := Elt F) (e' := .f32) (sums a b c) (Rect.unit (s := S3) ![1] S1.size inb) x = b :=
  (if_neg fun h => absurd ((emb_one 1 inb x).symm.trans h) (by decide)).trans (if_pos (emb_one 1 inb x))

/-- The third sum, loaded. -/
theorem ld_sum2 (a b c : F .f32) (inb) (x : S1.Idx) : View.ld (Val := Elt F) (e' := .f32) (sums a b c) (Rect.unit (s := S3) ![2] S1.size inb) x = c :=
  (if_neg fun h => absurd ((emb_one 2 inb x).symm.trans h) (by decide)).trans
    (if_neg fun h => absurd ((emb_one 2 inb x).symm.trans h) (by decide))

/-- A store of one element, read at an index: the stored value there, and what was stored before elsewhere. -/
theorem canon_one (k : ℕ) (inb : ∀ a, (![k] : Fin 1 → ℕ) a + S1.size a ≤ S3.size a) (a : F .f32) (L : List (View.Piece (Elt F) S3 .f32)) (j : S3.Idx) :
    View.canon (⟨Rect.unit (s := S3) ![k] S1.size inb, fun _ => a⟩ :: L) j = if (j 0).val = k then a else View.canon L j := by
  by_cases h : (j 0).val = k
  · have e : j = (Rect.unit (s := S3) ![k] S1.size inb).emb (ix1 (0 : Fin 1)) := by
      funext x
      fin_cases x
      exact Fin.ext (h.trans (emb_one k inb _).symm)
    rw [if_pos h, e, View.canon_cons_emb]
  · rw [if_neg h]
    refine View.canon_cons_of_not_mem _ _ fun hm => h ?_
    obtain ⟨x, rfl⟩ := (Rect.unit (s := S3) ![k] S1.size inb).exists_idx_of_mem hm
    exact emb_one k inb x

/-- The three stores into the sums leave the stored values, whatever was stored before. -/
theorem canon_sums (a b c : F .f32) (L : List (View.Piece (Elt F) S3 .f32)) :
    View.canon (⟨Rect.unit (s := S3) ![2] S1.size inb_S3_S1_2, fun _ => c⟩ :: ⟨Rect.unit (s := S3) ![1] S1.size inb_S3_S1_1, fun _ => b⟩
      :: ⟨Rect.unit (s := S3) ![0] S1.size inb_S3_S1_0, fun _ => a⟩ :: L) = sums a b c := by
  funext j
  rw [canon_one, canon_one, canon_one]
  unfold sums
  have h : (j 0).val < 3 := (j 0).isLt
  split_ifs <;> first | rfl | omega

variable (m : (ℓ : Loc nD τ sig) → Buf (Elt F) ℓ)

/-- What the first point leaves. -/
theorem point_first (c : Dev nD) (t : Fin cfg0.N) (h0 : t.val % 16 = 0) (h1 : ¬t.val % 16 = 15) :
    (outsAt0 m c t.val t.isLt).2 = (k0_pay6 (iblk m c 0 t), k0_pay7 (iblk m c 0 t),
      sums (addLoss (grid0.coords t) (iblk m c 0 t) (iblk m c 2 t) (iblk m c 3 t) (Scalar.ofBits .f32 0x00000000#32))
        (addValid (grid0.coords t) (iblk m c 0 t) (iblk m c 2 t) (iblk m c 3 t) (Scalar.ofBits .f32 0x00000000#32))
        (addRecon (grid0.coords t) (iblk m c 0 t) (iblk m c 1 t) (Scalar.ofBits .f32 0x00000000#32))) := by
  rw [outsAt0_A m c t h0 h1]
  refine Prod.ext ?_ (Prod.ext ?_ ?_)
  · frame_out
  · frame_out
  · frame_open
    simp (disch := decide) only [↓ View.readCov_skip, ↓ View.readCov_cons_toLoadRect, ↓ View.readCov_fill]
    frame_out
    exact canon_sums (F := F) _ _ _ _

/-- What a middle point leaves, over what the point before left. -/
theorem point_next (c : Dev nD) (t : Fin cfg0.N) (h0 : ¬ t.val % 16 = 0) (h1 : ¬t.val % 16 = 15) (x : Vec F S4096x512 .f32) (a b d : F .f32)
    (hx : iblk m c 0 t = x) (hp : (outsAt0 m c (t.val - 1) (Nat.lt_of_le_of_lt (Nat.sub_le _ _) t.isLt)).2 = (k0_pay6 x, k0_pay7 x, sums a b d)) :
    (outsAt0 m c t.val t.isLt).2 = (k0_pay6 x, k0_pay7 x,
      sums (addLoss (grid0.coords t) x (iblk m c 2 t) (iblk m c 3 t) a)
        (addValid (grid0.coords t) x (iblk m c 2 t) (iblk m c 3 t) b)
        (addRecon (grid0.coords t) x (iblk m c 1 t) d)) := by
  rw [outsAt0_B m c t h0 h1]
  rw [hp]
  refine Prod.ext ?_ (Prod.ext ?_ ?_)
  · exact rfl
  · exact rfl
  · frame_out
    rw [hx]
    simp only [read_unread_whole]
    have e0 := ld_sum0 a b d inb_S3_S1_0 (Shape.Idx.first (Nat.lt_of_lt_of_eq Nat.one_pos numel1_S1.symm))
    have e1 := ld_sum1 a b d inb_S3_S1_1 (Shape.Idx.first (Nat.lt_of_lt_of_eq Nat.one_pos numel1_S1.symm))
    have e2 := ld_sum2 a b d inb_S3_S1_2 (Shape.Idx.first (Nat.lt_of_lt_of_eq Nat.one_pos numel1_S1.symm))
    dsimp only at e0 e1 e2
    rw [e0, e1, e2]
    exact canon_sums (F := F) _ _ _ _

/-- What the last point leaves in the result, over what the point before left. -/
theorem point_last (c : Dev nD) (t : Fin cfg0.N) (h0 : ¬ t.val % 16 = 0) (h1 : t.val % 16 = 15) (x : Vec F S4096x512 .f32) (a b d : F .f32)
    (hx : iblk m c 0 t = x) (hp : (outsAt0 m c (t.val - 1) (Nat.lt_of_le_of_lt (Nat.sub_le _ _) t.isLt)).2 = (k0_pay6 x, k0_pay7 x, sums a b d)) :
    (outsAt0 m c t.val t.isLt).1 = fun _ => k0_pay4 (addLoss (grid0.coords t) x (iblk m c 2 t) (iblk m c 3 t) a)
        (addValid (grid0.coords t) x (iblk m c 2 t) (iblk m c 3 t) b)
        (addRecon (grid0.coords t) x (iblk m c 1 t) d) := by
  rw [outsAt0_C m c t h0 h1]
  rw [hp]
  frame_out
  rw [hx]
  simp only [read_unread_whole]
  have e0 := ld_sum0 a b d inb_S3_S1_0 (Shape.Idx.first (Nat.lt_of_lt_of_eq Nat.one_pos numel1_S1.symm))
  have e1 := ld_sum1 a b d inb_S3_S1_1 (Shape.Idx.first (Nat.lt_of_lt_of_eq Nat.one_pos numel1_S1.symm))
  have e2 := ld_sum2 a b d inb_S3_S1_2 (Shape.Idx.first (Nat.lt_of_lt_of_eq Nat.one_pos numel1_S1.symm))
  dsimp only at e0 e1 e2
  rw [e0, e1, e2]
  rfl

end Cert.Proof.Krn

end
-- ==== Proof.Bits1.lean ====
/- One-bit words read as propositions, and small index words. -/
module

public import Idealize.ShloMosaic.PureOps.Ideal.Laws
public import Idealize.ShloMosaic.Lib.Pointwise
public import Idealize.ShloMosaic.Lib.Routing.OpsOrder
public import Idealize.ShloMosaic.Lib.StableHlo.Predicate

@[expose] public section

noncomputable section

open Idealize.ShloMosaic

namespace Cert.Proof.Bit

/-- A conjunction of bits is one exactly when both are. -/
theorem and_one (a b : BitVec 1) : IntOp.andi a b = 1#1 ↔ a = 1#1 ∧ b = 1#1 := by
  revert a b; decide

/-- A disjunction of bits is one exactly when one of them is. -/
theorem or_one (a b : BitVec 1) : IntOp.ori a b = 1#1 ↔ a = 1#1 ∨ b = 1#1 := by
  revert a b; decide

/-- The complement of a bit is one exactly when the bit isn't. -/
theorem not_one (a : BitVec 1) : ~~~a = 1#1 ↔ ¬ a = 1#1 := by
  revert a; decide

/-- A truth value's bit is one exactly when it is true. -/
theorem ofBool_one (b : Bool) : BitVec.ofBool b = 1#1 ↔ b = true := by
  revert b; decide

/-- The bit of an equality of words is one exactly when they are equal. -/
theorem eq_one {w : Nat} (a b : BitVec w) : IntOp.cmpi .eq a b = 1#1 ↔ a = b := by
  simp [IntOp.cmpi, ofBool_one]

/-- A selection by a bit. -/
theorem select_eq {α : Type} (p : BitVec 1) (x y : α) : Scalar.select p x y = if p = 1#1 then x else y := rfl

/-- Two different row numbers have different words. -/
theorem word_inj (i k : Fin 4096) : BitVec.ofNat 32 i.val = BitVec.ofNat 32 k.val ↔ i = k := by
  constructor
  · intro h
    have := congrArg BitVec.toNat h
    simp only [BitVec.toNat_ofNat] at this
    have h1 := i.isLt; have h2 := k.isLt
    exact Fin.ext (by omega)
  · rintro rfl; rfl

/-- A row number's word is not negative. -/
theorem word_slt (q : Fin 4096) : ¬ IntOp.cmpi .slt (BitVec.ofNat 32 q.val) 0#32 = 1#1 := by
  have hq := q.isLt
  simp only [IntOp.cmpi, ofBool_one, BitVec.slt, decide_eq_true_eq]
  rw [StableHlo.Predicate.toInt_ofNat_small _ (by omega)]
  simp

/-- A row number's word is at least zero. -/
theorem word_sge (q : Fin 4096) : IntOp.cmpi .sge (BitVec.ofNat 32 q.val) 0#32 = 1#1 := by
  have hq := q.isLt
  simp only [IntOp.cmpi, ofBool_one, BitVec.sle, decide_eq_true_eq]
  have h0 : (0#32).toInt = 0 := by decide
  rw [StableHlo.Predicate.toInt_ofNat_small q.val (by omega), h0]
  exact Int.natCast_nonneg _

/-- A row number's word is at most the last row's. -/
theorem word_sle (q : Fin 4096) : IntOp.cmpi .sle (BitVec.ofNat 32 q.val) 4095#32 = 1#1 := by
  have hq := q.isLt
  simp only [IntOp.cmpi, ofBool_one, BitVec.sle, decide_eq_true_eq]
  rw [StableHlo.Predicate.toInt_ofNat_small _ (by omega)]
  have : (4095#32).toInt = 4095 := by decide
  omega

/-- A bit as a number of the extended reals. -/
theorem uitofp_bit (b : BitVec 1) : (FloatOps.uitofp .f32 b : Ideal .f32) = if b = 1#1 then (1 : EReal) else 0 := by
  show ((b.toNat : ℝ) : EReal) = _
  have hb : b = 0#1 ∨ b = 1#1 := by revert b; decide
  rcases hb with rfl | rfl <;> simp

end Cert.Proof.Bit

end
-- ==== Proof.Row.lean ====
/- What a row of the kernel picks: the largest entries of an anchor's row and the values looked up at them, over the extended reals. -/
module

public import Mathlib.Data.EReal.Basic
public import Mathlib.Data.EReal.Operations
public import Mathlib.Data.Finset.Lattice.Fold
public import Mathlib.Data.Fintype.Basic
public import Mathlib.Tactic.NormNum
public import Mathlib.Algebra.BigOperators.Fin
public import Mathlib.Tactic.Linarith

@[expose] public section

noncomputable section

namespace Cert.Proof.Row

/-- The largest entry of a vector of extended reals. -/
def top {n : ℕ} (v : Fin n → EReal) : EReal := Finset.univ.fold max ⊥ v

theorem top_eq_sup {n : ℕ} (v : Fin n → EReal) : top v = Finset.univ.sup v := rfl

/-- Every entry is at most the largest one. -/
theorem le_top {n : ℕ} (v : Fin n → EReal) (j : Fin n) : v j ≤ top v :=
  top_eq_sup v ▸ Finset.le_sup (Finset.mem_univ j)

/-- An entry that no other exceeds is the largest one. -/
theorem top_eq {n : ℕ} {v : Fin n → EReal} {p : Fin n} (h : ∀ j, v j ≤ v p) : top v = v p :=
  le_antisymm (top_eq_sup v ▸ Finset.sup_le fun j _ => h j) (le_top v p)

/-- The largest entry is one of the entries. -/
theorem exists_top {n : ℕ} [NeZero n] (v : Fin n → EReal) : ∃ j, top v = v j := by
  obtain ⟨j, _, hj⟩ := Finset.exists_mem_eq_sup Finset.univ ⟨0, Finset.mem_univ _⟩ v
  exact ⟨j, hj⟩

/-- The largest of the values `w` over the entries at which `v` is largest, where those values agree. -/
theorem top_pick {n : ℕ} {v w : Fin n → EReal} {b : EReal} {p : Fin n} (hp : ∀ j, v j ≤ v p) (hb : b ≤ w p)
    (ht : ∀ j, (∀ k, v k ≤ v j) → w j = w p) : top (fun j => if v j = top v then w j else b) = w p := by
  have e : top v = v p := top_eq hp
  have := top_eq (v := fun j => if v j = top v then w j else b) (p := p) fun j => by
    simp only [e, if_true]
    split
    · next h => rw [ht j fun k => h ▸ hp k]
    · exact hb
  rw [this]; simp only [e, if_true]

variable {n : ℕ} [NeZero n]

/-- The magnitude of the number that stands for "no candidate". -/
abbrev far : ℝ := 1000000015047466219876688855040

/-- The negative measure of the candidates: the number for "no candidate" where the label code says "same label". -/
def negval (pv ng : Fin n → EReal) (j : Fin n) : EReal := if ((511 : ℝ) : EReal) < pv j then ((-far : ℝ) : EReal) else ng j

/-- What the lemmas below assume of one anchor: `S` tells the rows of the anchor's own label; `pv` holds the label code
    plus the squared angle distance `Q`, `ng` the scaled cosine `N`, and `P` is the distance that is looked up. -/
structure Anchor (i : Fin n) (S : Fin n → Prop) (Q N P : Fin n → ℝ) (pv ng : Fin n → EReal) : Prop where
  self : S i
  zero : Q i = 0
  nonneg : ∀ j, 0 ≤ Q j
  same : ∀ j, S j → pv j = ((512 + Q j : ℝ) : EReal)
  other : ∀ j, ¬ S j → pv j < ((511 : ℝ) : EReal)
  scaled : ∀ j, ng j = ((N j : ℝ) : EReal)
  bounded : ∀ j, -(far / 2) < N j
  low : ∀ j, -far ≤ P j
  spread : (∃ j, S j ∧ j ≠ i) → ∃ j, (S j ∧ j ≠ i) ∧ (41 / 8192 : ℝ) < Q j
  tie_pos : ∀ j j', S j ∧ j ≠ i → S j' ∧ j' ≠ i → (∀ k, S k ∧ k ≠ i → Q k ≤ Q j) → (∀ k, S k ∧ k ≠ i → Q k ≤ Q j') → P j = P j'
  tie_neg : ∀ j j', ¬ S j → ¬ S j' → (∀ k, ¬ S k → N k ≤ N j) → (∀ k, ¬ S k → N k ≤ N j') → P j = P j'

namespace Anchor
variable {i : Fin n} {S : Fin n → Prop} {Q N P : Fin n → ℝ} {pv ng : Fin n → EReal} (A : Anchor i S Q N P pv ng)
include A

theorem negval_same {j : Fin n} (h : S j) : negval pv ng j = ((-far : ℝ) : EReal) := by
  unfold negval
  rw [if_pos]
  rw [A.same j h, EReal.coe_lt_coe_iff]
  linarith [A.nonneg j]

theorem negval_other {j : Fin n} (h : ¬ S j) : negval pv ng j = ((N j : ℝ) : EReal) := by
  unfold negval
  rw [if_neg (not_lt.2 (A.other j h).le), A.scaled]

/-- The label code exceeds the threshold exactly where the anchor has a positive. -/
theorem has_pos : ((512 + 41 / 8192 : ℝ) : EReal) < top pv ↔ ∃ j, S j ∧ j ≠ i := by
  constructor
  · intro h
    obtain ⟨j, hj⟩ := exists_top pv
    rw [hj] at h
    have hS : S j := by
      by_contra hS
      have := (h.trans (A.other j hS))
      rw [EReal.coe_lt_coe_iff] at this
      norm_num at this
    refine ⟨j, hS, ?_⟩
    rintro rfl
    rw [A.same j hS, A.zero, EReal.coe_lt_coe_iff] at h
    norm_num at h
  · intro h
    obtain ⟨j, ⟨hS, _⟩, hq⟩ := A.spread h
    refine lt_of_lt_of_le ?_ (le_top pv j)
    rw [A.same j hS, EReal.coe_lt_coe_iff]
    linarith

/-- The negative measure exceeds its threshold exactly where the anchor has a negative. -/
theorem has_neg : ((-(far / 2) : ℝ) : EReal) < top (negval pv ng) ↔ ∃ j, ¬ S j := by
  constructor
  · intro h
    obtain ⟨j, hj⟩ := exists_top (negval pv ng)
    refine ⟨j, fun hS => ?_⟩
    rw [hj, A.negval_same hS, EReal.coe_lt_coe_iff] at h
    norm_num [far] at h
  · rintro ⟨j, hS⟩
    refine lt_of_lt_of_le ?_ (le_top _ j)
    rw [A.negval_other hS, EReal.coe_lt_coe_iff]
    exact A.bounded j

/-- The looked-up distance of the hardest positive. -/
theorem pick_pos {p : Fin n} (hp : S p ∧ p ≠ i) (hmax : ∀ k, S k ∧ k ≠ i → Q k ≤ Q p) :
    top (fun j => if pv j = top pv then ((P j : ℝ) : EReal) else ((-far : ℝ) : EReal)) = ((P p : ℝ) : EReal) := by
  obtain ⟨a, ha, hq⟩ := A.spread ⟨p, hp⟩
  have hqp : 0 < Q p := lt_of_lt_of_le (by norm_num) (hq.le.trans (hmax a ha))
  have hpv : ∀ j, pv j ≤ pv p := by
    intro j
    rw [A.same p hp.1]
    by_cases hS : S j
    · rw [A.same j hS, EReal.coe_le_coe_iff]
      by_cases hji : j = i
      · subst hji; rw [A.zero]; linarith
      · linarith [hmax j ⟨hS, hji⟩]
    · refine (A.other j hS).le.trans ?_
      rw [EReal.coe_le_coe_iff]; linarith
  refine top_pick hpv (EReal.coe_le_coe_iff.2 (A.low p)) fun j hj => ?_
  have hjp := hj p
  have hS : S j := by
    by_contra hS
    have := hjp.trans_lt (A.other j hS)
    rw [A.same p hp.1, EReal.coe_lt_coe_iff] at this
    linarith
  rw [A.same p hp.1, A.same j hS, EReal.coe_le_coe_iff] at hjp
  have hji : j ≠ i := by
    rintro rfl
    rw [A.zero] at hjp; linarith
  rw [A.tie_pos j p ⟨hS, hji⟩ hp (fun k hk => (hmax k hk).trans (by linarith)) hmax]

/-- The looked-up distance of the hardest negative. -/
theorem pick_neg {p : Fin n} (hp : ¬ S p) (hmax : ∀ k, ¬ S k → N k ≤ N p) :
    top (fun j => if negval pv ng j = top (negval pv ng) then ((P j : ℝ) : EReal) else ((-far : ℝ) : EReal))
      = ((P p : ℝ) : EReal) := by
  have hlow : ∀ j, S j → negval pv ng j < negval pv ng p := by
    intro j hS
    rw [A.negval_same hS, A.negval_other hp, EReal.coe_lt_coe_iff]
    have := A.bounded p
    norm_num [far] at this ⊢; linarith
  have hpv : ∀ j, negval pv ng j ≤ negval pv ng p := by
    intro j
    by_cases hS : S j
    · exact (hlow j hS).le
    · rw [A.negval_other hS, A.negval_other hp, EReal.coe_le_coe_iff]; exact hmax j hS
  refine top_pick hpv (EReal.coe_le_coe_iff.2 (A.low p)) fun j hj => ?_
  have hS : ¬ S j := fun hS => absurd (hj p) (not_le.2 (hlow j hS))
  have hjp := hj p
  rw [A.negval_other hS, A.negval_other hp, EReal.coe_le_coe_iff] at hjp
  rw [A.tie_neg j p hS hp (fun k hk => (hmax k hk).trans hjp) hmax]

end Anchor
end Cert.Proof.Row

end
-- ==== Proof.Lit.lean ====
/- The literals of the programs, as real numbers. -/
module

public import Idealize.ShloMosaic.PureOps.Ideal.Laws

@[expose] public section

noncomputable section

open Idealize.ShloMosaic

namespace Cert.Proof.Lit

/-- The word of fifteen. -/
theorem c15 : Ideal.ofBits .f32 0x41700000#32 = (((15) : ℝ) : EReal) := by
  simp [Ideal.ofBits, Ideal.ieee, -EReal.coe_mul, -EReal.coe_neg]; norm_num

/-- The word of forty-five. -/
theorem c45 : Ideal.ofBits .f32 0x42340000#32 = (((45) : ℝ) : EReal) := by
  simp [Ideal.ofBits, Ideal.ieee, -EReal.coe_mul, -EReal.coe_neg]; norm_num

/-- The word of thirty. -/
theorem c30 : Ideal.ofBits .f32 0x41F00000#32 = (((30) : ℝ) : EReal) := by
  simp [Ideal.ofBits, Ideal.ieee, -EReal.coe_mul, -EReal.coe_neg]; norm_num

/-- The word of the mark for no entry. -/
theorem nbig : Ideal.ofBits .f32 0xF149F2CA#32 = (((-1000000015047466219876688855040) : ℝ) : EReal) := by
  simp [Ideal.ofBits, Ideal.ieee, -EReal.coe_mul, -EReal.coe_neg]; norm_num

/-- The word of half the mark. -/
theorem nhalf : Ideal.ofBits .f32 0xF0C9F2CA#32 = (((-500000007523733109938344427520) : ℝ) : EReal) := by
  simp [Ideal.ofBits, Ideal.ieee, -EReal.coe_mul, -EReal.coe_neg]; norm_num

/-- The word of the distances' small term. -/
theorem eps12 : Ideal.ofBits .f32 0x2B8CBCCC#32 = (((2305843 / 2305843009213693952) : ℝ) : EReal) := by
  simp [Ideal.ofBits, Ideal.ieee, -EReal.coe_mul, -EReal.coe_neg]; norm_num

/-- The word of the norms' lower bound. -/
theorem eps8 : Ideal.ofBits .f32 0x322BCC77#32 = (((11258999 / 1125899906842624) : ℝ) : EReal) := by
  simp [Ideal.ofBits, Ideal.ieee, -EReal.coe_mul, -EReal.coe_neg]; norm_num

/-- The word of the margin. -/
theorem margin : Ideal.ofBits .f32 0x3E4CCCCD#32 = (((13421773 / 67108864) : ℝ) : EReal) := by
  simp [Ideal.ofBits, Ideal.ieee, -EReal.coe_mul, -EReal.coe_neg]; norm_num

/-- The word of one and a half. -/
theorem onehalf : Ideal.ofBits .f32 0x3FC00000#32 = (((3 / 2) : ℝ) : EReal) := by
  simp [Ideal.ofBits, Ideal.ieee, -EReal.coe_mul, -EReal.coe_neg]; norm_num

/-- The word of the weight of the reconstruction loss. -/
theorem tenth : Ideal.ofBits .f32 0x3DCCCCCD#32 = (((13421773 / 134217728) : ℝ) : EReal) := by
  simp [Ideal.ofBits, Ideal.ieee, -EReal.coe_mul, -EReal.coe_neg]; norm_num

/-- The word of the number of rows. -/
theorem rows : Ideal.ofBits .f32 0x45800000#32 = (((4096) : ℝ) : EReal) := by
  simp [Ideal.ofBits, Ideal.ieee, -EReal.coe_mul, -EReal.coe_neg]; norm_num

/-- The word of the threshold of equal labels. -/
theorem eq : Ideal.ofBits .f32 0x43FF8000#32 = (((511) : ℝ) : EReal) := by
  simp [Ideal.ofBits, Ideal.ieee, -EReal.coe_mul, -EReal.coe_neg]; norm_num

/-- The word of the threshold of a positive. -/
theorem thr : Ideal.ofBits .f32 0x44000052#32 = (((4194345 / 8192) : ℝ) : EReal) := by
  simp [Ideal.ofBits, Ideal.ieee, -EReal.coe_mul, -EReal.coe_neg]; norm_num

/-- The word of two. -/
theorem two : Ideal.ofBits .f32 0x40000000#32 = (((2) : ℝ) : EReal) := by
  simp [Ideal.ofBits, Ideal.ieee, -EReal.coe_mul, -EReal.coe_neg]; norm_num

/-- The word of the weight of a label digit. -/
theorem big : Ideal.ofBits .f32 0x43800000#32 = (((256) : ℝ) : EReal) := by
  simp [Ideal.ofBits, Ideal.ieee, -EReal.coe_mul, -EReal.coe_neg]; norm_num

/-- The word of minus two. -/
theorem mtwo : Ideal.ofBits .f32 0xC0000000#32 = (((-2) : ℝ) : EReal) := by
  simp [Ideal.ofBits, Ideal.ieee, -EReal.coe_mul, -EReal.coe_neg]; norm_num

/-- The word of the angle of a label digit. -/
theorem eighth : Ideal.ofBits .f32 0x3EC90FDB#32 = (((13176795 / 33554432) : ℝ) : EReal) := by
  simp [Ideal.ofBits, Ideal.ieee, -EReal.coe_mul, -EReal.coe_neg]; norm_num

/-- The word of the bound of the features. -/
theorem bound : Ideal.ofBits .f32 0x53800000#32 = (((1099511627776) : ℝ) : EReal) := by
  simp [Ideal.ofBits, Ideal.ieee, -EReal.coe_mul, -EReal.coe_neg]; norm_num

/-- The word of the smallest spread. -/
theorem spread : Ideal.ofBits .f32 0x3BA40000#32 = (((41 / 8192) : ℝ) : EReal) := by
  simp [Ideal.ofBits, Ideal.ieee, -EReal.coe_mul, -EReal.coe_neg]; norm_num

end Cert.Proof.Lit

end
-- ==== Proof.PointVal.lean ====
/- One grid point's quantities of the kernel, element by element. -/
module

public import proofs.«01_k».proof.Proof.Points
public import proofs.«01_k».proof.Proof.Bits1
public import proofs.«01_k».proof.Proof.Row
public import proofs.«01_k».proof.Proof.Lit
public import Idealize.ShloMosaic.Lib.Pointwise
public import Idealize.ShloMosaic.Lib.Pointwise.IndexBridge

@[expose] public section

set_option maxRecDepth 200000

noncomputable section

open Idealize.ShloMosaic Idealize.SL.Sem Idealize.ShloMosaic.TcCoe

namespace Cert.Proof.Krn

open Cert.KernelIdeal Cert.KernelIdeal.Gen

/-! ## An anchor's quantities, over the features and the two key arrays -/

section rows
variable (X : FVec Ideal S4096x512 .f32) (P : FVec Ideal S4096x16 .f32) (R : FVec Ideal S16x4096 .f32)

/-- The product of rows `j` and `i` of the features. -/
def dotX (j i : Fin 4096) : EReal := ∑ k : Fin 512, X (ix2 j k) * X (ix2 i k)

/-- The inverse norm of row `j`. -/
def invX (j : Fin 4096) : EReal := Ideal.div 1 (max (Ideal.sqrt (dotX X j j)) (Ideal.ofBits .f32 0x322BCC77#32))

/-- The positive key of row `j` for anchor `i`. -/
def key (j i : Fin 4096) : EReal := ∑ k : Fin 16, P (ix2 j k) * R (ix2 k i)

/-- What the kernel carries for row `j` and anchor `i`: the squared distance less the anchor's squared norm. -/
def carry (j i : Fin 4096) : EReal := dotX X j j - Ideal.ofBits .f32 0x40000000#32 * dotX X j i

/-- The negative key of row `j` for anchor `i`. -/
def nkey (i j : Fin 4096) : EReal := if Ideal.ofBits .f32 0x43FF8000#32 < key P R j i then Ideal.ofBits .f32 0xF149F2CA#32 else dotX X j i * invX X j

/-- What is carried at the largest positive key. -/
def posCarry (i : Fin 4096) : EReal :=
  Row.top fun j => if key P R j i = Row.top (fun j => key P R j i) then carry X j i else Ideal.ofBits .f32 0xF149F2CA#32

/-- What is carried at the largest negative key. -/
def negCarry (i : Fin 4096) : EReal :=
  Row.top fun j => if nkey X P R i j = Row.top (nkey X P R i) then carry X j i else Ideal.ofBits .f32 0xF149F2CA#32

/-- An anchor's validity, as the kernel decides it. -/
def kvalid (i : Fin 4096) : EReal :=
  if Ideal.ofBits .f32 0x44000052#32 < Row.top (fun j => key P R j i) ∧ Ideal.ofBits .f32 0xF0C9F2CA#32 < Row.top (nkey X P R i) then 1 else 0

/-- The distance that the kernel makes of a carried value. -/
def kdist (i : Fin 4096) (v : EReal) : EReal :=
  Ideal.sqrt (max (v + ∑ k : Fin 512, X (ix2 i k) * X (ix2 i k)) 0 + Ideal.ofBits .f32 0x2B8CBCCC#32)

/-- An anchor's loss, as the kernel computes it. -/
def kloss (i : Fin 4096) : EReal :=
  Ideal.ofBits .f32 0x3FC00000#32
    * max (kdist X i (posCarry X P R i) - kdist X i (negCarry X P R i) + Ideal.ofBits .f32 0x3E4CCCCD#32) 0 * kvalid X P R i

end rows

/-- Row `r` of the block at grid point `g`. -/
def row (g : grid0.Coords) (r : Fin 256) : Fin 4096 := ⟨256 * (g 0).val + r.val, by
  have h : (g 0).val < 16 := (g 0).isLt
  omega⟩

/-- The word of minus infinity. -/
theorem neg_inf : Ideal.ofBits .f32 0xFF800000#32 = ⊥ := by simp [Ideal.ofBits, Ideal.ieee]

section point
variable (g : grid0.Coords) (X : FVec Ideal S4096x512 .f32) (P : FVec Ideal S4096x16 .f32) (R : FVec Ideal S16x4096 .f32)

theorem anchors_at (r : Fin 256) (k : Fin 512) : anchors (F := Ideal) g X (ix2 r k) = X (ix2 (row g r) k) := by
  unfold anchors row
  refine congrArg X ?_
  funext a
  apply Fin.ext
  refine (ValueKit.rect_emb_unit_val _ _ _ _ a).trans ((congrArg (· + _) (congrFun (k0_off1_eq g) a)).trans ?_)
  fin_cases a
  · rfl
  · exact Nat.zero_add _

theorem keyCols_at (k : Fin 16) (r : Fin 256) : keyCols (F := Ideal) g R (ix2 k r) = R (ix2 k (row g r)) := by
  unfold keyCols row
  refine congrArg R ?_
  funext a
  apply Fin.ext
  refine (ValueKit.rect_emb_unit_val _ _ _ _ a).trans ((congrArg (· + _) (congrFun (k0_off2_eq g) a)).trans ?_)
  fin_cases a
  · exact Nat.zero_add _
  · rfl

theorem sq_at (j : Fin 4096) : k0_pay6 (F := Ideal) X (ix2 j 0) = dotX X j j := by
  unfold k0_pay6 k0_pay5 dotX
  pointwise

theorem anchorSq_at (r : Fin 256) : anchorSq (F := Ideal) g X (ix2 r 0) = dotX X (row g r) (row g r) := by
  rw [← sq_at]
  unfold anchorSq row
  refine congrArg (k0_pay6 (F := Ideal) X) ?_
  funext a
  apply Fin.ext
  refine (ValueKit.rect_emb_unit_val _ _ _ _ a).trans ((congrArg (· + _) (congrFun (k0_off3_eq g) a)).trans ?_)
  fin_cases a
  · rfl
  · exact Nat.zero_add _

theorem inv_at (j : Fin 4096) : k0_pay7 (F := Ideal) X (ix2 j 0) = invX X j := by
  unfold k0_pay7 k0_pay5 invX dotX
  pointwise

theorem dot_at (j : Fin 4096) (r : Fin 256) : k0_pay8 (F := Ideal) (anchors g X) X (ix2 j r) = dotX X j (row g r) := by
  unfold k0_pay8 dotX
  pointwise
  simp only [anchors_at]

theorem key_at (j : Fin 4096) (r : Fin 256) : k0_pay9 (F := Ideal) P (keyCols g R) (ix2 j r) = key P R j (row g r) := by
  unfold k0_pay9 key
  pointwise
  simp only [keyCols_at]

theorem carry_at (j : Fin 4096) (r : Fin 256) : k0_pay10 (F := Ideal) (anchors g X) X (k0_pay6 (F := Ideal) X) (ix2 j r) = carry X j (row g r) := by
  unfold k0_pay10 carry
  pointwise
  rw [sq_at, dot_at]

theorem posTop_at (r : Fin 256) : posTop (F := Ideal) g P R (ix2 0 r) = Row.top (fun j => key P R j (row g r)) := by
  unfold posTop k0_pay11 Row.top
  pointwise
  rw [neg_inf]
  simp only [key_at]

theorem posCarry_at (r : Fin 256) : k0_pay12 (F := Ideal) (anchors g X) X P (keyCols g R) (k0_pay6 (F := Ideal) X) (ix2 0 r) = posCarry X P R (row g r) := by
  have h : k0_pay11 (F := Ideal) P (keyCols g R) (ix2 0 r) = Row.top (fun j => key P R j (row g r)) := posTop_at g P R r
  unfold k0_pay12
  pointwise
  rw [neg_inf, h]
  simp only [key_at, carry_at]
  unfold posCarry Row.top
  with_reducible rfl

theorem nkey_at (j : Fin 4096) (r : Fin 256) : k0_pay13 (F := Ideal) (anchors g X) X P (keyCols g R) (k0_pay7 (F := Ideal) X) (ix2 j r) = nkey X P R (row g r) j := by
  unfold k0_pay13 nkey
  pointwise
  rw [key_at, dot_at, inv_at]

theorem negTop_at (r : Fin 256) : negTop (F := Ideal) g X P R (ix2 0 r) = Row.top (nkey X P R (row g r)) := by
  unfold negTop k0_pay14 Row.top
  pointwise
  rw [neg_inf]
  simp only [nkey_at]

end point

end Cert.Proof.Krn

end
-- ==== Proof.PointLoss.lean ====
/- One grid point's validity and loss of the kernel, element by element. -/
module

public import proofs.«01_k».proof.Proof.PointVal
public import Idealize.ShloMosaic.Lib.Pointwise
public import Idealize.ShloMosaic.Lib.Pointwise.IndexBridge

@[expose] public section

set_option maxRecDepth 200000

noncomputable section

open Idealize.ShloMosaic Idealize.SL.Sem Idealize.ShloMosaic.TcCoe

namespace Cert.Proof.Krn

open Cert.KernelIdeal Cert.KernelIdeal.Gen

variable (g : grid0.Coords) (X : FVec Ideal S4096x512 .f32) (P : FVec Ideal S4096x16 .f32) (R : FVec Ideal S16x4096 .f32)

theorem valid_at (r : Fin 256) : validRow (F := Ideal) g X P R (ix2 0 r) = kvalid X P R (row g r) := by
  unfold validRow k0_pay15 kvalid
  pointwise
  rw [posTop_at, negTop_at, Bit.select_eq]
  simp only [Bit.and_one, Bit.ofBool_one, decide_eq_true_eq]

theorem loss_at (r : Fin 256) : lossRow (F := Ideal) g X P R (ix2 0 r) = kloss X P R (row g r) := by
  unfold lossRow k0_pay16
  pointwise
  rw [posCarry_at, neg_inf, negTop_at]
  simp only [anchors_at, nkey_at, carry_at]
  exact congrArg (_ * ·) (valid_at g X P R r)

end Cert.Proof.Krn

end
-- ==== Proof.ArgPick.lean ====
/- The index of the largest element of a row, as the reference's reduction over pairs (element, index) computes it. -/
module

public import proofs.«01_k».proof.ReferenceIdeal
public import proofs.«01_k».proof.Proof.Gen.ReferenceIdeal
public import Idealize.ShloMosaic.PureOps.Ideal.Laws
public import Idealize.ShloMosaic.Lib.Pointwise

@[expose] public section

noncomputable section

open Idealize.ShloMosaic

namespace Cert.Proof.Pick

/-- A fold whose step keeps one of its two arguments and is above both ends with the start or a member of the list, above everything. -/
theorem foldl_pick {α : Type} (le : α → α → Prop) (refl : ∀ a, le a a) (trans : ∀ a b c, le a b → le b c → le a c)
    (f : α → α → α) (h : ∀ a b, (f a b = a ∨ f a b = b) ∧ le a (f a b) ∧ le b (f a b)) (l : List α) (a : α) :
    (l.foldl f a = a ∨ l.foldl f a ∈ l) ∧ le a (l.foldl f a) ∧ ∀ b ∈ l, le b (l.foldl f a) := by
  induction l generalizing a with
  | nil => exact ⟨.inl rfl, refl a, fun b hb => nomatch hb⟩
  | cons c l ih =>
    obtain ⟨h1, h2, h3⟩ := ih (f a c)
    obtain ⟨k1, k2, k3⟩ := h a c
    refine ⟨?_, trans _ _ _ k2 h2, fun b hb => ?_⟩
    · rcases h1 with h1 | h1
      · rcases k1 with k1 | k1
        · exact .inl (h1.trans k1)
        · exact .inr (by rw [List.foldl_cons, h1, k1]; exact List.mem_cons_self)
      · exact .inr (List.mem_cons_of_mem _ h1)
    · rcases List.mem_cons.1 hb with rfl | hb
      · exact trans _ _ _ k3 h2
      · exact h3 b hb

/-- One step of the reference's search for the largest element keeps one of the two pairs, with an element above both. -/
theorem step_max (a b : EReal × BitVec 32) :
    (Cert.ReferenceIdeal.reducer_argmax_f32_i32 (F := Ideal) a b = a ∨ Cert.ReferenceIdeal.reducer_argmax_f32_i32 (F := Ideal) a b = b)
      ∧ a.1 ≤ (Cert.ReferenceIdeal.reducer_argmax_f32_i32 (F := Ideal) a b).1
      ∧ b.1 ≤ (Cert.ReferenceIdeal.reducer_argmax_f32_i32 (F := Ideal) a b).1 := by
  obtain ⟨x, p⟩ := a
  obtain ⟨y, q⟩ := b
  rcases lt_trichotomy x y with h | h | h
  · simp [Cert.ReferenceIdeal.reducer_argmax_f32_i32, Ideal.cmpf_def, Ideal.cmp, Scalar.select, IntOp.ori, IntOp.andi, h.not_gt, h.ne, h.le]
  · subst h
    by_cases hpq : p.slt q <;>
    simp [Cert.ReferenceIdeal.reducer_argmax_f32_i32, Ideal.cmpf_def, Ideal.cmp, Scalar.select, IntOp.ori, IntOp.andi, IntOp.cmpi, hpq]
  · simp [Cert.ReferenceIdeal.reducer_argmax_f32_i32, Ideal.cmpf_def, Ideal.cmp, Scalar.select, IntOp.ori, IntOp.andi, h, h.ne', h.le]

/-- The reference's search in row `i` of an array without `⊥` ends with the index of an element that no other exceeds. -/
theorem arg_max [Cert.ReferenceIdeal.Facts] (x : FVec Ideal Cert.ReferenceIdeal.S4096x4096 .f32) (y : Cert.ReferenceIdeal.S4096x4096.Idx → BitVec 32)
    (ix : Cert.ReferenceIdeal.S_.Idx → Ideal .f32) (iy : Cert.ReferenceIdeal.S_.Idx → BitVec 32)
    (h : Cert.ReferenceIdeal.S4096x4096.ReducesTo [1] Cert.ReferenceIdeal.S4096) (hu : 0 < Cert.ReferenceIdeal.S_.numel)
    (hix : ∀ e, ix e = ⊥) (i : Fin 4096) (hx : ∀ k : Fin 4096, ⊥ < x (ix2 i k)) :
    ∃ k : Fin 4096, (Host.argReduce (Cert.ReferenceIdeal.reducer_argmax_f32_i32 (F := Ideal)) x y ix iy h hu (ix1 i)).2 = y (ix2 i k)
      ∧ ∀ k' : Fin 4096, x (ix2 i k') ≤ x (ix2 i k) := by
  rw [Ideal.argReduce_eq_reduce2, Host.reduce2_eq_foldl_fiber]
  have hmem : ∀ k : Fin 4096, (x (ix2 i k), y (ix2 i k)) ∈ Host.argReduceFiber x y h (ix1 i) := by
    intro k
    unfold Host.argReduceFiber
    refine List.mem_map.2 ⟨Cert.ReferenceIdeal.S4096x4096.rowMajor (ix2 i k), ?_, by simp⟩
    simp only [List.mem_filter, List.mem_finRange, Equiv.symm_apply_apply, true_and, decide_eq_true_eq]
    exact (Shape.ReducesTo.fiber_r2_a1 h _ _).2 ⟨k, rfl⟩
  have hback : ∀ b ∈ Host.argReduceFiber x y h (ix1 i), ∃ k : Fin 4096, b = (x (ix2 i k), y (ix2 i k)) := by
    intro b hb
    unfold Host.argReduceFiber at hb
    obtain ⟨n, hn, rfl⟩ := List.mem_map.1 hb
    simp only [List.mem_filter, List.mem_finRange, true_and, decide_eq_true_eq] at hn
    obtain ⟨k, hk⟩ := (Shape.ReducesTo.fiber_r2_a1 h _ _).1 hn
    exact ⟨k, by rw [← hk]; rfl⟩
  obtain ⟨h1, -, h3⟩ := foldl_pick (fun a b : Ideal .f32 × BitVec 32 => (show EReal from a.1) ≤ b.1) (fun a => le_rfl)
    (fun _ _ _ => le_trans) (Cert.ReferenceIdeal.reducer_argmax_f32_i32 (F := Ideal)) step_max
    (Host.argReduceFiber x y h (ix1 i)) (ix (Shape.Idx.first hu), iy (Shape.Idx.first hu))
  rcases h1 with h1 | h1
  · have := h3 _ (hmem 0)
    rw [h1] at this
    exact absurd (lt_of_lt_of_le (hx 0) this) (by rw [hix]; exact lt_irrefl _)
  · obtain ⟨k, hk⟩ := hback _ h1
    refine ⟨k, by rw [hk], fun k' => ?_⟩
    have := h3 _ (hmem k')
    rw [hk] at this
    exact this

/-- The same, for a row given by its elements `key` and for indices that count along the row. -/
theorem arg_max_key [Cert.ReferenceIdeal.Facts] (x : FVec Ideal Cert.ReferenceIdeal.S4096x4096 .f32)
    (y : Cert.ReferenceIdeal.S4096x4096.Idx → BitVec 32)
    (ix : Cert.ReferenceIdeal.S_.Idx → Ideal .f32) (iy : Cert.ReferenceIdeal.S_.Idx → BitVec 32)
    (h : Cert.ReferenceIdeal.S4096x4096.ReducesTo [1] Cert.ReferenceIdeal.S4096) (hu : 0 < Cert.ReferenceIdeal.S_.numel)
    (i : Fin 4096) (key : Fin 4096 → EReal)
    (hix : ∀ e, ix e = ⊥) (hy : ∀ k : Fin 4096, y (ix2 i k) = BitVec.ofNat 32 k) (hkey : ∀ k : Fin 4096, x (ix2 i k) = key k)
    (hlow : ∀ k, ⊥ < key k) :
    ∃ p : Fin 4096, (Host.argReduce (Cert.ReferenceIdeal.reducer_argmax_f32_i32 (F := Ideal)) x y ix iy h hu (ix1 i)).2 = BitVec.ofNat 32 p
      ∧ ∀ k : Fin 4096, key k ≤ key p := by
  obtain ⟨p, h1, h2⟩ := arg_max x y ix iy h hu hix i fun k => by rw [hkey]; exact hlow k
  refine ⟨p, h1.trans (hy p), fun k => ?_⟩
  rw [← hkey, ← hkey]
  exact h2 k

end Cert.Proof.Pick

end
-- ==== Proof.RefRead.lean ====
/- What the buffers of the reference program hold, element by element. -/
module

public import proofs.«01_k».proof.Proof.RefRun
public import proofs.«01_k».proof.Proof.ArgPick
public import proofs.«01_k».proof.Proof.Bits1
public import Idealize.ShloMosaic.Lib.Routing.Ops
public import Idealize.ShloMosaic.Lib.Pointwise.IndexBridge
public import Idealize.ShloMosaic.Lib.StableHlo.ReadAt
public import Idealize.ShloMosaic.Lib.Pointwise

@[expose] public section

set_option maxRecDepth 200000

noncomputable section

open Idealize.ShloMosaic Idealize.SL.Sem Idealize.ShloMosaic.StableHlo

namespace Cert.Proof.RefRun

open Cert.ReferenceIdeal

attribute [local instance] Cert.ReferenceIdeal.Gen.facts

/-- The word of minus infinity. -/
theorem neg_inf : Ideal.ofBits .f32 0xFF800000#32 = ⊥ := by simp [Ideal.ofBits, Ideal.ieee]

/-- A word plus zero. -/
theorem add_zero_word (x : BitVec 32) : IntOp.addi x 0#32 = x := BitVec.add_zero x

/-- A buffer of the reference as the array of numbers that it holds. -/
abbrev fv (s : Shape) (x : FVec Ideal s .f32) : FVec Ideal s .f32 := x

/-- A buffer of the reference as the array of words that it holds. -/
abbrev iv (s : Shape) (w : Nat) (x : IVec s w) : IVec s w := x

/-- The distance of the angles of rows `i` and `j`, as the reference computes it. -/
def angDist (A : FVec Ideal S4096x3 .f32) (i j : Fin 4096) : EReal :=
  Ideal.sqrt ((∑ k : Fin 3, (A (ix2 i k) - A (ix2 j k)) * (A (ix2 i k) - A (ix2 j k))) + Ideal.ofBits .f32 0x2B8CBCCC#32)

/-- What the search for the hardest positive of row `i` ranks row `k` by. -/
def posKey (A : FVec Ideal S4096x3 .f32) (L : IVec S4096 32) (i k : Fin 4096) : EReal :=
  if L (ix1 i) = L (ix1 k) ∧ i ≠ k then angDist A i k else Ideal.ofBits .f32 0xF149F2CA#32

/-- The cosine of rows `i` and `k` of the features. -/
def cosine (X : FVec Ideal S4096x512 .f32) (i k : Fin 4096) : EReal :=
  ∑ c : Fin 512, Ideal.div (X (ix2 i c)) (max (Ideal.sqrt (∑ e : Fin 512, X (ix2 i e) * X (ix2 i e))) (Ideal.ofBits .f32 0x322BCC77#32))
    * Ideal.div (X (ix2 k c)) (max (Ideal.sqrt (∑ e : Fin 512, X (ix2 k e) * X (ix2 k e))) (Ideal.ofBits .f32 0x322BCC77#32))

/-- What the search for the hardest negative of row `i` ranks row `k` by. -/
def negKey (X : FVec Ideal S4096x512 .f32) (A : FVec Ideal S4096x3 .f32) (L : IVec S4096 32) (i k : Fin 4096) : EReal :=
  if ¬ L (ix1 i) = L (ix1 k) ∧ angDist A i k < Ideal.ofBits .f32 0x41F00000#32 then cosine X i k else Ideal.ofBits .f32 0xF149F2CA#32

/-- The rows of an array that a vector of indices names, as the reference takes them. -/
def takeRows (x : FVec Ideal S4096x512 .f32) (p : IVec S4096 32) : FVec Ideal S4096x512 .f32 :=
  let q : IVec S4096x1 32 := broadcastInDim S4096x1 ![0] Facts₀.bcast_S4096_S4096x1_0
    (select (cmpi .slt p (broadcastInDim S4096 ![] Facts₀.bcast_S_S4096 (constantI S_ 32 0#32)))
      (addi p (broadcastInDim S4096 ![] Facts₀.bcast_S_S4096 (constantI S_ 32 4096#32))) p)
  select (broadcastInDim S4096x512 ![0] Facts₀.bcast_S4096_S4096x512_0
      (Host.reduce IntOp.andi
        (andi (cmpi .sge q (broadcastInDim S4096x1 ![] Facts₀.bcast_S_S4096x1 (constantI S_ 32 0#32)))
          (cmpi .sle q (broadcastInDim S4096x1 ![0, 1] Facts₀.bcast_S1x1_S4096x1_0_1
            (broadcastInDim S1x1 ![1] Facts₀.bcast_S1_S1x1_1 (constantI S1 32 4095#32)))))
        (constantI S_ 1 1#1) Facts₀.reducesTo_S4096x1_S4096_d1 Facts₀.h_S_))
    (Host.gather gather_S4096x512_S4096x1_S4096x512_1_0_n_n_0_1_1512 x q)
    (broadcastInDim S4096x512 ![] Facts₀.bcast_S_S4096x512 (constant (F := Ideal) S_ .f32 0x7FC00000#32))

/-- A row whose index word is in range is the row of that index. -/
theorem takeRows_at (x : FVec Ideal S4096x512 .f32) (p : IVec S4096 32) (i q : Fin 4096) (k : Fin 512)
    (h : p (ix1 i) = BitVec.ofNat 32 q) : takeRows x p (ix2 i k) = x (ix2 q k) := by
  unfold takeRows
  pointwise
  rw [h, Bit.select_eq (IntOp.cmpi .slt _ _), if_neg (Bit.word_slt q), Bit.word_sge, Bit.word_sle, Bit.select_eq, if_pos ?_, ix2_eq_valueIdx, ix2_eq_valueIdx]
  · refine Routing.gather_row _ rfl rfl rfl rfl rfl x _ i k q ?_ (by decide)
    rw [← ix2_eq_valueIdx]
    pointwise
    rw [h, Bit.select_eq, if_neg (Bit.word_slt q)]
  · rfl

variable (V : Valuation τ sig (Elt Ideal))

/-- The array of angle distances. -/
theorem read_v9 (i j : Fin 4096) : (fv S4096x4096 (after win0.1 V (Proc.devRef .tc main_v9))) (ix2 i j)
    = angDist (V (Proc.devRef .tc main_arg2)) i j := by
  unfold angDist
  simp only [fv, iv]
  after_reads_at

/-- The index of the hardest positive of a row. -/
theorem read_v24 (i : Fin 4096) (h : ∀ k, ⊥ < posKey (V (Proc.devRef .tc main_arg2)) (V (Proc.devRef .tc main_arg1)) i k) :
    ∃ p : Fin 4096, (iv S4096 32 (after win0.1 V (Proc.devRef .tc main_v24))) (ix1 i) = BitVec.ofNat 32 p
      ∧ ∀ k, posKey (V (Proc.devRef .tc main_arg2)) (V (Proc.devRef .tc main_arg1)) i k
        ≤ posKey (V (Proc.devRef .tc main_arg2)) (V (Proc.devRef .tc main_arg1)) i p := by
  simp only [fv, iv]
  after_reads_simp
  simp -implicitDefEqProofs only [StableHlo.TRef.toBuf, StableHlo.TRef.ofBuf, cast_cast, cast_eq]
  refine Pick.arg_max_key _ _ _ _ _ _ i _ (fun e => ?_) (fun k => ?_) (fun k => ?_) h
  · pointwise
    exact neg_inf
  · pointwise
  · unfold posKey angDist
    pointwise
    simp only [Bit.select_eq, Bit.and_one, Bit.not_one, Bit.eq_one, add_zero_word, Bit.word_inj, ne_eq]

/-- The anchors less their hardest positives. -/
theorem read_v48 : (fv S4096x512 (after win0.1 V (Proc.devRef .tc main_v48)))
    = subf (fv S4096x512 (V (Proc.devRef .tc main_arg0))) (takeRows (V (Proc.devRef .tc main_arg0)) (after win0.1 V (Proc.devRef .tc main_v24))) := by
  simp only [fv, iv]
  after_reads_simp
  simp -implicitDefEqProofs only [StableHlo.TRef.toBuf, StableHlo.TRef.ofBuf, cast_cast, cast_eq]
  unfold takeRows
  with_reducible rfl

/-- The hardest negatives of the anchors. -/
theorem read_v47 : (fv S4096x512 (after win0.1 V (Proc.devRef .tc main_v47)))
    = takeRows (V (Proc.devRef .tc main_arg0)) (after win0.1 V (Proc.devRef .tc main_v42)) := by
  simp only [fv, iv]
  after_reads_simp
  simp -implicitDefEqProofs only [StableHlo.TRef.toBuf, StableHlo.TRef.ofBuf, cast_cast, cast_eq]
  unfold takeRows
  with_reducible rfl

/-- A selection whose bit is one is its first operand. -/
theorem select_exists (b : IVec S4096 1) (x y : IVec S4096 32) (i : Fin 4096) (Q : Fin 4096 → Prop) (hb : b (ix1 i) = 1#1)
    (h : ∃ p : Fin 4096, x (ix1 i) = BitVec.ofNat 32 p ∧ Q p) : ∃ p : Fin 4096, select b x y (ix1 i) = BitVec.ofNat 32 p ∧ Q p := by
  obtain ⟨p, h1, h2⟩ := h
  refine ⟨p, ?_, h2⟩
  show (if b (ix1 i) = 1#1 then x (ix1 i) else y (ix1 i)) = _
  rw [hb, if_pos rfl, h1]

/-- The index of the hardest negative of a row. -/
theorem read_v42 (i : Fin 4096) (hs : ∃ k, ¬ (iv S4096 32 (V (Proc.devRef .tc main_arg1))) (ix1 i) = (iv S4096 32 (V (Proc.devRef .tc main_arg1))) (ix1 k)
      ∧ angDist (V (Proc.devRef .tc main_arg2)) i k < Ideal.ofBits .f32 0x41F00000#32)
    (h : ∀ k, ⊥ < negKey (V (Proc.devRef .tc main_arg0)) (V (Proc.devRef .tc main_arg2)) (V (Proc.devRef .tc main_arg1)) i k) :
    ∃ p : Fin 4096, (iv S4096 32 (after win0.1 V (Proc.devRef .tc main_v42))) (ix1 i) = BitVec.ofNat 32 p
      ∧ ∀ k, negKey (V (Proc.devRef .tc main_arg0)) (V (Proc.devRef .tc main_arg2)) (V (Proc.devRef .tc main_arg1)) i k
        ≤ negKey (V (Proc.devRef .tc main_arg0)) (V (Proc.devRef .tc main_arg2)) (V (Proc.devRef .tc main_arg1)) i p := by
  simp only [fv, iv]
  after_reads_simp
  simp -implicitDefEqProofs only [StableHlo.TRef.toBuf, StableHlo.TRef.ofBuf, cast_cast, cast_eq]
  refine select_exists _ _ _ i _ ?_ ?_
  · pointwise
    rw [Routing.fold_ori]
    obtain ⟨k, hk⟩ := hs
    refine ⟨k, Finset.mem_univ k, ?_⟩
    have h2 := hk.2
    unfold angDist at h2
    simp only [Bit.and_one, Bit.not_one, Bit.eq_one, Ideal.cmp, Bit.ofBool_one, decide_eq_true_eq]
    exact ⟨hk.1, h2⟩
  refine Pick.arg_max_key _ _ _ _ _ _ i _ (fun e => ?_) (fun k => ?_) (fun k => ?_) h
  · pointwise
    exact neg_inf
  · pointwise
  · unfold negKey angDist cosine
    pointwise
    simp only [Bit.select_eq, Bit.and_one, Bit.not_one, Bit.eq_one, Ideal.cmp, Bit.ofBool_one, decide_eq_true_eq]

/-- Whether a row has a positive and a negative, as a number. -/
theorem read_v44 (i : Fin 4096) : (fv S4096 (after win0.1 V (Proc.devRef .tc main_v44))) (ix1 i)
    = if (∃ k, (iv S4096 32 (V (Proc.devRef .tc main_arg1))) (ix1 i) = (iv S4096 32 (V (Proc.devRef .tc main_arg1))) (ix1 k) ∧ i ≠ k)
        ∧ (∃ k, ¬ (iv S4096 32 (V (Proc.devRef .tc main_arg1))) (ix1 i) = (iv S4096 32 (V (Proc.devRef .tc main_arg1))) (ix1 k))
      then (1 : EReal) else 0 := by
  simp only [fv, iv]
  after_reads_at
  rw [Bit.uitofp_bit]
  simp only [Bit.and_one, Routing.fold_ori, Bit.not_one, Bit.eq_one, add_zero_word, Bit.word_inj, Finset.mem_univ, true_and, ne_eq]

end Cert.Proof.RefRun

end
-- ==== Proof.RefFinal.lean ====
/- The reference's result, from the quantities of each row. -/
module

public import proofs.«01_k».proof.Proof.RefRead
public import proofs.«01_k».proof.Proof.Lit

@[expose] public section

set_option maxRecDepth 200000

noncomputable section

open Idealize.ShloMosaic Idealize.SL.Sem Idealize.ShloMosaic.StableHlo

namespace Cert.Proof.RefRun

open Cert.ReferenceIdeal

attribute [local instance] Cert.ReferenceIdeal.Gen.facts

/-- The cosine of a row of the features and the same row of the original features, as both programs compute it. -/
def recon (X O : FVec Ideal S4096x512 .f32) (i : Fin 4096) : EReal :=
  Ideal.div (∑ k : Fin 512, X (ix2 i k) * O (ix2 i k))
    (max (Ideal.sqrt (∑ k : Fin 512, X (ix2 i k) * X (ix2 i k)) * Ideal.sqrt (∑ k : Fin 512, O (ix2 i k) * O (ix2 i k)))
      (Ideal.ofBits .f32 0x322BCC77#32))

/-- The loss from the rows' losses and their validity: the mean over the valid rows plus a tenth of the reconstruction loss. -/
def total (loss valid : Fin 4096 → EReal) (X O : FVec Ideal S4096x512 .f32) : EReal :=
  Ideal.div (∑ i, loss i) (max (∑ i, valid i) 1)
    + Ideal.ofBits .f32 0x3DCCCCCD#32 * (1 - Ideal.div (∑ i, recon X O i) (Ideal.ofBits .f32 0x45800000#32))

/-- The distance in feature space of rows `i` and `p`, as the reference computes it. -/
def featDist (X : FVec Ideal S4096x512 .f32) (i p : Fin 4096) : EReal :=
  Ideal.sqrt ((∑ k : Fin 512, (X (ix2 i k) - X (ix2 p k)) * (X (ix2 i k) - X (ix2 p k))) + Ideal.ofBits .f32 0x2B8CBCCC#32)

/-- A row's loss from the distances of its hardest positive and its hardest negative. -/
def hinge (a b : EReal) : EReal := max (a - b + Ideal.ofBits .f32 0x3E4CCCCD#32) 0

/-- Whether row `i` has a positive and a negative. -/
def Valid (L : IVec S4096 32) (i : Fin 4096) : Prop :=
  (∃ k, L (ix1 i) = L (ix1 k) ∧ i ≠ k) ∧ ∃ k, ¬ L (ix1 i) = L (ix1 k)

open Classical in
/-- A row's validity as a number. -/
def validNum (L : IVec S4096 32) (i : Fin 4096) : EReal := if Valid L i then 1 else 0

section windows
variable (V : Valuation τ sig (Elt Ideal))

/-- The third window: the result from the rows' quantities. -/
theorem read_v118 : (fv S1x1 (after win2.1 V (Proc.devRef .tc main_v118))) (ix2 0 0)
    = total (fun i => (fv S4096 (V (Proc.devRef .tc main_v90))) (ix1 i)
          * Scalar.select ((iv S4096 1 (V (Proc.devRef .tc main_v92))) (ix1 i)) (Ideal.ofBits .f32 0x3FC00000#32) 1
          * hinge ((fv S4096 (V (Proc.devRef .tc main_v53))) (ix1 i)) ((fv S4096 (V (Proc.devRef .tc main_v59))) (ix1 i))
          * (fv S4096 (V (Proc.devRef .tc main_v44))) (ix1 i))
        (fun i => (fv S4096 (V (Proc.devRef .tc main_v44))) (ix1 i))
        (V (Proc.devRef .tc main_arg0)) (V (Proc.devRef .tc main_arg3)) := by
  unfold total recon hinge
  simp only [fv, iv]
  after_reads_at

/-- The second window: the distance to the hardest positive. -/
theorem read_v53 (i : Fin 4096) : (fv S4096 (after win1.1 V (Proc.devRef .tc main_v53))) (ix1 i)
    = Ideal.sqrt ((∑ k : Fin 512, (fv S4096x512 (V (Proc.devRef .tc main_v48))) (ix2 i k)
        * (fv S4096x512 (V (Proc.devRef .tc main_v48))) (ix2 i k)) + Ideal.ofBits .f32 0x2B8CBCCC#32) := by
  simp only [fv, iv]
  after_reads_at

/-- The second window: the distance to the hardest negative. -/
theorem read_v59 (i : Fin 4096) : (fv S4096 (after win1.1 V (Proc.devRef .tc main_v59))) (ix1 i)
    = Ideal.sqrt ((∑ k : Fin 512,
        ((fv S4096x512 (V (Proc.devRef .tc main_arg0))) (ix2 i k) - (fv S4096x512 (V (Proc.devRef .tc main_v47))) (ix2 i k))
        * ((fv S4096x512 (V (Proc.devRef .tc main_arg0))) (ix2 i k) - (fv S4096x512 (V (Proc.devRef .tc main_v47))) (ix2 i k)))
        + Ideal.ofBits .f32 0x2B8CBCCC#32) := by
  simp only [fv, iv]
  after_reads_at

/-- The second window: no weight for a large angle, where every angle distance is small. -/
theorem read_v90 (i : Fin 4096) (h : ∀ j, ¬ Ideal.ofBits .f32 0x42340000#32 < (fv S4096x4096 (V (Proc.devRef .tc main_v9))) j) :
    (fv S4096 (after win1.1 V (Proc.devRef .tc main_v90))) (ix1 i) = 1 := by
  simp only [fv, iv]
  after_reads_at
  exact if_neg (h _)

/-- The second window: every angle of a hardest negative counts as near, where every angle distance is small. -/
theorem read_v92 (i : Fin 4096) (h : ∀ j, (fv S4096x4096 (V (Proc.devRef .tc main_v9))) j < Ideal.ofBits .f32 0x41700000#32) :
    (iv S4096 1 (after win1.1 V (Proc.devRef .tc main_v92))) (ix1 i) = 1#1 := by
  simp only [fv, iv]
  after_reads_at
  rw [Bit.ofBool_one, decide_eq_true_eq]
  exact h _

theorem keep_v44 : after win1.1 V (Proc.devRef .tc main_v44) = V (Proc.devRef .tc main_v44) := by after_reads_simp
theorem keep1_arg0 : after win1.1 V (Proc.devRef .tc main_arg0) = V (Proc.devRef .tc main_arg0) := by after_reads_simp
theorem keep1_arg3 : after win1.1 V (Proc.devRef .tc main_arg3) = V (Proc.devRef .tc main_arg3) := by after_reads_simp
theorem keep0_arg0 : after win0.1 V (Proc.devRef .tc main_arg0) = V (Proc.devRef .tc main_arg0) := by after_reads_simp
theorem keep0_arg3 : after win0.1 V (Proc.devRef .tc main_arg3) = V (Proc.devRef .tc main_arg3) := by after_reads_simp

end windows

/-- The reference's result, where every angle distance is below fifteen and no distance or cosine is `⊥`: the rows that aren't valid lose
    nothing, and a valid row loses one and a half times the hinge at a hardest positive and a hardest negative. -/
theorem result (V : Valuation τ sig (Elt Ideal)) (X O : FVec Ideal S4096x512 .f32) (A : FVec Ideal S4096x3 .f32) (L : IVec S4096 32)
    (hX : V (Proc.devRef .tc main_arg0) = X) (hL : V (Proc.devRef .tc main_arg1) = L) (hA : V (Proc.devRef .tc main_arg2) = A)
    (hO : V (Proc.devRef .tc main_arg3) = O)
    (hlow : ∀ i j, ⊥ < angDist A i j) (hcos : ∀ i j, ⊥ < cosine X i j)
    (h15 : ∀ i j, angDist A i j < Ideal.ofBits .f32 0x41700000#32) :
    ∃ loss : Fin 4096 → EReal,
      (fv S1x1 (after win2.1 (after win1.1 (after win0.1 V)) (Proc.devRef .tc main_v118))) (ix2 0 0)
          = total loss (validNum L) X O
      ∧ ∀ i, (¬ Valid L i → loss i = 0)
        ∧ (Valid L i → ∃ p q, (∀ k, posKey A L i k ≤ posKey A L i p) ∧ (∀ k, negKey X A L i k ≤ negKey X A L i q)
            ∧ loss i = Ideal.ofBits .f32 0x3FC00000#32 * hinge (featDist X i p) (featDist X i q)) := by
  have l45 : Ideal.ofBits .f32 0x41700000#32 ≤ Ideal.ofBits .f32 0x42340000#32 := by
    rw [Lit.c15, Lit.c45, EReal.coe_le_coe_iff]; norm_num
  have l30 : Ideal.ofBits .f32 0x41700000#32 ≤ Ideal.ofBits .f32 0x41F00000#32 := by
    rw [Lit.c15, Lit.c30, EReal.coe_le_coe_iff]; norm_num
  have lfar : ⊥ < Ideal.ofBits .f32 0xF149F2CA#32 := by
    rw [Lit.nbig]; exact EReal.bot_lt_coe _
  have h9 : ∀ j, (fv S4096x4096 (after win0.1 V (Proc.devRef .tc main_v9))) j < Ideal.ofBits .f32 0x41700000#32 := by
    intro j
    obtain ⟨a, b, rfl⟩ : ∃ a b, j = ix2 a b := ⟨j 0, j 1, eq_ix2 j⟩
    rw [read_v9, hA]
    exact h15 _ _
  have hv : ∀ i, (fv S4096 (after win0.1 V (Proc.devRef .tc main_v44))) (ix1 i) = validNum L i := by
    intro i
    rw [read_v44, hL]
    unfold validNum Valid
    congr
  have hpk : ∀ i k, ⊥ < posKey A L i k := by
    intro i k
    unfold posKey
    split
    · exact hlow _ _
    · exact lfar
  have hnk : ∀ i k, ⊥ < negKey X A L i k := by
    intro i k
    unfold negKey
    split
    · exact hcos _ _
    · exact lfar
  subst hX hL hA hO
  have e := read_v118 (after win1.1 (after win0.1 V))
  rw [keep_v44, keep1_arg0, keep0_arg0, keep1_arg3, keep0_arg3, funext hv] at e
  refine ⟨_, e, fun i => ?_⟩
  beta_reduce
  rw [read_v90 _ i fun j => not_lt.2 ((h9 j).le.trans l45), read_v92 _ i h9, hv, read_v53, read_v59]
  have e0 : Scalar.select (1#1) (Ideal.ofBits .f32 0x3FC00000#32) (1 : EReal) = Ideal.ofBits .f32 0x3FC00000#32 := rfl
  rw [e0, one_mul, keep0_arg0]
  constructor
  · intro hn
    unfold validNum
    rw [if_neg hn, mul_zero]
  · intro hval
    obtain ⟨p, hp, hpm⟩ := read_v24 V i (hpk i)
    obtain ⟨k, hk⟩ := hval.2
    obtain ⟨q, hq, hqm⟩ := read_v42 V i ⟨k, hk, (h15 _ _).trans_le l30⟩ (hnk i)
    refine ⟨p, q, hpm, hqm, ?_⟩
    unfold validNum
    rw [if_pos hval, mul_one]
    have h1 : ∀ k, (fv S4096x512 (after win0.1 V (Proc.devRef .tc main_v48))) (ix2 i k)
        = (fv S4096x512 (V (Proc.devRef .tc main_arg0))) (ix2 i k) - (fv S4096x512 (V (Proc.devRef .tc main_arg0))) (ix2 p k) := by
      intro k
      have ht := takeRows_at (V (Proc.devRef .tc main_arg0)) _ i p k hp
      rw [read_v48]
      exact congrArg ((fv S4096x512 (V (Proc.devRef .tc main_arg0))) (ix2 i k) - ·) ht
    have h2 : ∀ k, (fv S4096x512 (after win0.1 V (Proc.devRef .tc main_v47))) (ix2 i k)
        = (fv S4096x512 (V (Proc.devRef .tc main_arg0))) (ix2 q k) := by
      intro k
      rw [read_v47, takeRows_at _ _ i q k hq]
    simp only [h1, h2]
    rfl

end Cert.Proof.RefRun

end
-- ==== Proof.KrnFinal.lean ====
/- The kernel's result, as sums over all anchors. -/
module

public import proofs.«01_k».proof.Proof.PointLoss
public import proofs.«01_k».proof.Proof.RefFinal

@[expose] public section

set_option maxRecDepth 200000

noncomputable section

open Idealize.ShloMosaic Idealize.SL.Sem Idealize.ShloMosaic.TcCoe

namespace Cert.Proof.Krn

open Cert.KernelIdeal Cert.KernelIdeal.Gen

/-! ## One point's additions -/

section additions
variable (g : grid0.Coords) (X : FVec Ideal S4096x512 .f32) (O : FVec Ideal S256x512 .f32) (P : FVec Ideal S4096x16 .f32)
  (R : FVec Ideal S16x4096 .f32)

/-- A point adds its anchors' losses. -/
theorem addLoss_at (a : EReal) : addLoss (F := Ideal) g X P R a = a + ∑ r : Fin 256, kloss X P R (row g r) := by
  unfold addLoss k0_pay1
  pointwise
  simp only [loss_at, Fin.sum_univ_one]

/-- A point adds the number of its valid anchors. -/
theorem addValid_at (a : EReal) : addValid (F := Ideal) g X P R a = a + ∑ r : Fin 256, kvalid X P R (row g r) := by
  unfold addValid k0_pay2
  pointwise
  simp only [valid_at, Fin.sum_univ_one]

/-- A point adds its anchors' reconstruction cosines, where its block of the original features is the anchors' rows of an array. -/
theorem addRecon_at (W : FVec Ideal S4096x512 .f32) (hO : ∀ r k, O (ix2 r k) = W (ix2 (row g r) k)) (a : EReal) :
    addRecon (F := Ideal) g X O a = a + ∑ r : Fin 256, RefRun.recon X W (row g r) := by
  unfold addRecon k0_pay3 k0_pay17 RefRun.recon
  pointwise
  simp only [anchorSq_at, anchors_at, hO, Fin.sum_univ_one]
  unfold dotX
  rfl

end additions

/-! ## Sums over the points so far -/

/-- A quantity of anchor `k`, nothing beyond the last anchor. -/
def ext (f : Fin 4096 → EReal) (k : ℕ) : EReal := if h : k < 4096 then f ⟨k, h⟩ else 0

/-- The sum of a quantity over one point's anchors. -/
def part (f : Fin 4096 → EReal) (t : ℕ) : EReal := ∑ r : Fin 256, ext f (256 * t + r.val)

/-- The sum of a quantity over the anchors of the first `n` points. -/
def upto (f : Fin 4096 → EReal) (n : ℕ) : EReal := ∑ t ∈ Finset.range n, part f t

theorem upto_succ (f : Fin 4096 → EReal) (n : ℕ) : upto f (n + 1) = upto f n + part f n := Finset.sum_range_succ _ _

/-- All sixteen points have all anchors. -/
theorem upto_all (f : Fin 4096 → EReal) : upto f 16 = ∑ i, f i := by
  unfold upto part
  rw [Finset.sum_range]
  refine Eq.trans ?_ (Fin.sum_mul_add_fin 16 256 f rfl)
  refine Finset.sum_congr rfl fun t _ => Finset.sum_congr rfl fun r _ => ?_
  have ht := t.isLt
  have hr := r.isLt
  unfold ext
  rw [dif_pos (by omega)]
  congr 2
  omega

/-- A grid point's coordinate is its number. -/
theorem coord (t : Fin cfg0.N) : (grid0.coords t 0).val = t.val := by
  have h : (grid0.coords t 0).val = t.val / 1 % 16 := Pipeline.Grid.coords_val t 0 (by decide) rfl
  have ht : t.val < 16 := lt_of_lt_of_eq t.isLt N_0
  omega

/-- The sum over a point's rows is the point's part. -/
theorem rows_part (f : Fin 4096 → EReal) (t : Fin cfg0.N) : ∑ r : Fin 256, f (row (grid0.coords t) r) = part f t.val := by
  unfold part
  refine Finset.sum_congr rfl fun r _ => ?_
  have ht : t.val < 16 := lt_of_lt_of_eq t.isLt N_0
  have hr := r.isLt
  have hc := coord t
  unfold ext row
  rw [dif_pos (by omega)]
  congr 2
  omega

/-! ## The result -/

section result
variable (m : (ℓ : Loc nD τ sig) → Buf (Elt Ideal) ℓ) (c : Dev nD)

theorem index_0 : ∀ t : Fin cfg0.N, win0_0.index t = ![0, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)

/-- Every point's features are the whole array. -/
theorem iblk_0 (t : Fin cfg0.N) : iblk m c 0 t = V m c main_arg0 := by
  funext y
  blk_ext [iblk, index_0 t]

/-- Every point's left keys are the whole array. -/
theorem iblk_2 (t : Fin cfg0.N) : iblk m c 2 t = V m c main_v29 := by
  funext y
  blk_ext [iblk, index_2 t]

/-- Every point's right keys are the whole array. -/
theorem iblk_3 (t : Fin cfg0.N) : iblk m c 3 t = V m c main_v33 := by
  funext y
  blk_ext [iblk, index_3 t]

/-- A point's original features are the rows of its anchors. -/
theorem iblk_1 (t : Fin cfg0.N) (r : Fin 256) (k : Fin 512) :
    iblk m c 1 t (ix2 r k) = V m c main_arg3 (ix2 (row (grid0.coords t) r) k) := by
  have hc := coord t
  unfold row
  blk_ext [iblk, index_1 t]

/-- The arrays that the kernel's points read. -/
abbrev feats : FVec Ideal S4096x512 .f32 := V m c main_arg0
abbrev origs : FVec Ideal S4096x512 .f32 := V m c main_arg3
abbrev left : FVec Ideal S4096x16 .f32 := V m c main_v29
abbrev right : FVec Ideal S16x4096 .f32 := V m c main_v33

/-- The losses, the validities and the reconstruction cosines. -/
abbrev losses : Fin 4096 → EReal := kloss (feats m c) (left m c) (right m c)
abbrev valids : Fin 4096 → EReal := kvalid (feats m c) (left m c) (right m c)
abbrev recons : Fin 4096 → EReal := RefRun.recon (feats m c) (origs m c)

/-- A point adds its part of the losses. -/
theorem loss_part (t : Fin cfg0.N) (a : EReal) :
    addLoss (F := Ideal) (grid0.coords t) (feats m c) (iblk m c 2 t) (iblk m c 3 t) a = a + part (losses m c) t.val := by
  rw [iblk_2, iblk_3, ← rows_part]
  exact addLoss_at _ _ _ _ _

/-- A point adds its part of the validities. -/
theorem valid_part (t : Fin cfg0.N) (a : EReal) :
    addValid (F := Ideal) (grid0.coords t) (feats m c) (iblk m c 2 t) (iblk m c 3 t) a = a + part (valids m c) t.val := by
  rw [iblk_2, iblk_3, ← rows_part]
  exact addValid_at _ _ _ _ _

/-- A point adds its part of the reconstruction cosines. -/
theorem recon_part (t : Fin cfg0.N) (a : EReal) :
    addRecon (F := Ideal) (grid0.coords t) (feats m c) (iblk m c 1 t) a = a + part (recons m c) t.val := by
  rw [← rows_part]
  exact addRecon_at _ _ _ _ (iblk_1 m c t) _

/-- The last point. -/
def lastPoint : Fin cfg0.N := ⟨15, by decide⟩

/-- Before the last point, the three sums are those over the anchors of the points so far. -/
theorem carried (n : ℕ) : ∀ (hn : n < cfg0.N) (_ : n < 15), (outsAt0 m c n hn).2 = (k0_pay6 (F := Ideal) (feats m c), k0_pay7 (F := Ideal) (feats m c),
    sums (F := Ideal) (upto (losses m c) (n + 1)) (upto (valids m c) (n + 1)) (upto (recons m c) (n + 1))) := by
  induction n with
  | zero =>
    intro hn _
    have e := point_first m c ⟨0, hn⟩ rfl (fun h => absurd h (by show ¬ 0 % 16 = 15; decide))
    have z : (Scalar.ofBits .f32 0x00000000#32 : Ideal .f32) = (0 : EReal) := Ideal.ofBits_zero_f32
    rw [iblk_0, loss_part, valid_part, recon_part, z] at e
    rw [upto_succ _ 0, upto_succ _ 0, upto_succ _ 0]
    exact e
  | succ n ih =>
    intro hn h
    have e := point_next m c ⟨n + 1, hn⟩ (by show ¬(n + 1) % 16 = 0; omega) (by show ¬(n + 1) % 16 = 15; omega) (feats m c) _ _ _ (iblk_0 m c _)
      (ih (by omega) (by omega))
    rw [loss_part, valid_part, recon_part] at e
    rw [upto_succ _ (n + 1), upto_succ _ (n + 1), upto_succ _ (n + 1)]
    exact e

/-- The result array: the loss from the anchors' losses and validities. -/
theorem result : (dats m 0 c).arrAt 4 cfg0.N = fun _ => RefRun.total (losses m c) (valids m c) (feats m c) (origs m c) := by
  refine (dats m 0 c).arrAt_eq_of_after_last 4 lastPoint (by decide +kernel) _ fun j => ?_
  blk_simp
  rw [after0_4]
  have e := point_last m c lastPoint (by decide) (by decide) (feats m c) _ _ _ (iblk_0 m c _)
    (carried m c 14 (by decide) (by decide))
  have h : ∀ f, upto f (14 + 1) + part f lastPoint.val = ∑ i, f i := fun f => (upto_succ f 15).symm.trans (upto_all f)
  rw [loss_part, valid_part, recon_part, h, h, h] at e
  rw [e]
  unfold k0_pay4 RefRun.total
  pointwise

end result

end Cert.Proof.Krn

end
-- ==== Proof.KrnKeys.lean ====
/- The two key arrays that the kernel's host operations make, and the positive key of two rows. -/
module

public import proofs.«01_k».proof.Proof.KrnFinal

@[expose] public section

set_option maxRecDepth 200000

noncomputable section

open Idealize.ShloMosaic Idealize.SL.Sem Idealize.ShloMosaic.TcCoe

namespace Cert.Proof.Krn

open Cert.KernelIdeal Cert.KernelIdeal.Gen

/-! ## A label's two digits -/

/-- The word sixteen, as the digits' operations read it. -/
abbrev sixteen : BitVec 32 := id (constantI S_ 32 16#32) ix0

/-- The divisor of the low digit. -/
abbrev divisor : BitVec 32 := Scalar.select (IntOp.cmpi .eq sixteen 0#32) 1#32 sixteen

/-- A label's low digit. -/
def lo (w : BitVec 32) : BitVec 32 :=
  Scalar.select
    (IntOp.andi
      (IntOp.cmpi .ne (IntOp.cmpi .slt (IntOp.remsi .host w divisor) 0#32) (IntOp.cmpi .slt divisor 0#32))
      (IntOp.cmpi .ne (IntOp.remsi .host w divisor) 0#32))
    (IntOp.addi (IntOp.remsi .host w divisor) divisor)
    (IntOp.remsi .host w divisor)

/-- A label's high digit. -/
def hi (w : BitVec 32) : BitVec 32 :=
  Scalar.select
    (IntOp.andi
      (IntOp.cmpi .ne (if w = 0 then (0 : BitVec 32) else if BitVec.msb w = true then -1 else 1)
        (if sixteen = 0 then (0 : BitVec 32) else if BitVec.msb sixteen = true then -1 else 1))
      (IntOp.cmpi .ne (IntOp.remsi .host w sixteen) 0#32))
    (IntOp.subi (IntOp.divsi .host w sixteen) 1#32)
    (IntOp.divsi .host w sixteen)

/-- The angle of a digit. -/
def ang (w : BitVec 32) : EReal := (FloatOps.sitofp .f32 w : Ideal .f32) * Ideal.ofBits .f32 0x3EC90FDB#32

/-- The low digit of a label is its remainder. -/
theorem lo_eq : ∀ n : Fin 256, lo (BitVec.ofNat 32 n.val) = BitVec.ofNat 32 (n.val % 16) := by decide +kernel

/-- The high digit of a label is its quotient. -/
theorem hi_eq : ∀ n : Fin 256, hi (BitVec.ofNat 32 n.val) = BitVec.ofNat 32 (n.val / 16) := by decide +kernel

/-- The angle of a digit, as a real number. -/
theorem ang_eq (n : ℕ) (h : n < 16) : ang (BitVec.ofNat 32 n) = ((n * (13176795 / 33554432) : ℝ) : EReal) := by
  unfold ang
  have e : (FloatOps.sitofp .f32 (BitVec.ofNat 32 n) : Ideal .f32) = ((((BitVec.ofNat 32 n).toInt : ℤ) : ℝ) : EReal) := rfl
  rw [e, Lit.eighth, StableHlo.Predicate.toInt_ofNat_small _ (by omega), ← EReal.coe_mul]
  norm_num

/-! ## The key arrays -/

section keys
variable (A : FVec Ideal S4096x3 .f32) (L : IVec S4096 32)

/-- The squared norm of a row of angles. -/
def normA (j : Fin 4096) : EReal := ∑ k : Fin 3, A (ix2 j k) * A (ix2 j k)

/-- A row of the left keys. -/
def leftKey (j : Fin 4096) : Fin 16 → EReal :=
  ![A (ix2 j 0), A (ix2 j 1), A (ix2 j 2), normA A j, 1,
    Ideal.ofBits .f32 0x43800000#32 * Ideal.cos (ang (lo (L (ix1 j)))), Ideal.ofBits .f32 0x43800000#32 * Ideal.sin (ang (lo (L (ix1 j)))),
    Ideal.ofBits .f32 0x43800000#32 * Ideal.cos (ang (hi (L (ix1 j)))), Ideal.ofBits .f32 0x43800000#32 * Ideal.sin (ang (hi (L (ix1 j)))),
    0, 0, 0, 0, 0, 0, 0]

/-- A column of the right keys. -/
def rightKey (i : Fin 4096) : Fin 16 → EReal :=
  ![Ideal.ofBits .f32 0xC0000000#32 * A (ix2 i 0), Ideal.ofBits .f32 0xC0000000#32 * A (ix2 i 1), Ideal.ofBits .f32 0xC0000000#32 * A (ix2 i 2),
    1, normA A i,
    Ideal.cos (ang (lo (L (ix1 i)))), Ideal.sin (ang (lo (L (ix1 i)))), Ideal.cos (ang (hi (L (ix1 i)))), Ideal.sin (ang (hi (L (ix1 i)))),
    0, 0, 0, 0, 0, 0, 0]

end keys

section read
variable (m : (ℓ : Loc nD τ sig) → Buf (Elt Ideal) ℓ) (c : Dev nD)

/-- The angles and the labels. -/
abbrev angles : FVec Ideal S4096x3 .f32 := m (c, Proc.devRef .tc main_arg2)
abbrev labels : IVec S4096 32 := m (c, Proc.devRef .tc main_arg1)

/-- The sixteen key positions. -/
theorem positions : ∀ k : Fin 16, k = 0 ∨ k = 1 ∨ k = 2 ∨ k = 3 ∨ k = 4 ∨ k = 5 ∨ k = 6 ∨ k = 7 ∨ k = 8 ∨ k = 9 ∨ k = 10 ∨ k = 11 ∨ k = 12 ∨ k = 13 ∨ k = 14 ∨ k = 15 := by
  decide

set_option maxHeartbeats 2000000 in
/-- The left keys, read. -/
theorem left_at (j : Fin 4096) (k : Fin 16) : left m c (ix2 j k) = leftKey (angles m c) (labels m c) j k := by
  rcases positions k with rfl | rfl | rfl | rfl | rfl | rfl | rfl | rfl | rfl | rfl | rfl | rfl | rfl | rfl | rfl | rfl
  all_goals
    unfold left V
    after_reads_at
    try after_reads_at
    rfl

set_option maxHeartbeats 2000000 in
/-- The right keys, read. -/
theorem right_at (i : Fin 4096) (k : Fin 16) : right m c (ix2 k i) = rightKey (angles m c) (labels m c) i k := by
  rcases positions k with rfl | rfl | rfl | rfl | rfl | rfl | rfl | rfl | rfl | rfl | rfl | rfl | rfl | rfl | rfl | rfl
  all_goals
    unfold right V
    after_reads_at
    try after_reads_at
    rfl

end read

end Cert.Proof.Krn

end
-- ==== Proof.PreFacts.lean ====
/- What the precondition says of the arguments. -/
module

public import proofs.«01_k».proof.Proof.Bits1
public import proofs.«01_k».proof.Proof.Gen.Pre_admissible
public import Idealize.ShloMosaic.Lib.Routing.Ops
public import Idealize.ShloMosaic.Lib.Pointwise
public import Idealize.ShloMosaic.Lib.Pointwise.IndexBridge

@[expose] public section

set_option maxRecDepth 200000

noncomputable section

open Idealize.ShloMosaic

namespace Cert.Proof.Pre

open Cert.Pre_admissible

attribute [local instance] Cert.Pre_admissible.Gen.facts

/-- The word of minus infinity. -/
theorem neg_inf : Ideal.ofBits .f32 0xFF800000#32 = ⊥ := by simp [Ideal.ofBits, Ideal.ieee]

/-- The word of plus infinity. -/
theorem pos_inf : Ideal.ofBits .f32 0x7F800000#32 = ⊤ := by simp [Ideal.ofBits, Ideal.ieee]

/-- The bit of a comparison of numbers. -/
abbrev leBit (a b : EReal) : BitVec 1 := BitVec.ofBool (decide (a ≤ b))

/-- A number selected by a bit. -/
abbrev sel (p : BitVec 1) (a b : EReal) : EReal := Scalar.select p a b

/-- The largest of the numbers in a row, from a least value. -/
abbrev most (w : EReal) (f : Fin 4096 → EReal) : EReal := Finset.fold max w f Finset.univ

/-- The smallest of the numbers in a row, from a largest value. -/
abbrev least (w : EReal) (f : Fin 4096 → EReal) : EReal := Finset.fold min w f Finset.univ

/-- All candidates of the largest measure have one value: none of them exceeds another. -/
def Tie (b : Fin 4096 → Prop) (key val : Fin 4096 → EReal) : Prop :=
  ∀ j j', (b j ∧ ∀ k, b k → key k ≤ key j) → (b j' ∧ ∀ k, b k → key k ≤ key j') → val j ≤ val j'

/-- The hard candidates' bits. -/
abbrev hard (b : Fin 4096 → BitVec 1) (key : Fin 4096 → EReal) (x : Fin 4096) : BitVec 1 :=
  IntOp.andi (b x) (leBit (most ⊥ fun x => sel (b x) (key x) ⊥) (key x))

/-- Where the hard candidates' largest value is at most their smallest one, they have one value. -/
theorem tie_of (b : Fin 4096 → BitVec 1) (key val : Fin 4096 → EReal)
    (h : most ⊥ (fun x => sel (hard b key x) (val x) ⊥)
      ≤ least ⊤ (fun x => sel (hard b key x) (val x) ⊤)) : Tie (fun j => b j = 1#1) key val := by
  have hh : ∀ j, (b j = 1#1 ∧ ∀ k, b k = 1#1 → key k ≤ key j) → hard b key j = 1#1 := by
    intro j hj
    rw [hard, Bit.and_one, leBit, Bit.ofBool_one, decide_eq_true_eq, most, Finset.fold_max_le]
    refine ⟨hj.1, bot_le, fun k _ => ?_⟩
    rw [sel, Bit.select_eq]
    split
    · exact hj.2 k (by assumption)
    · exact bot_le
  intro j j' hj hj'
  have h1 : val j ≤ most ⊥ (fun x => sel (hard b key x) (val x) ⊥) := by
    rw [most, Finset.le_fold_max]
    exact Or.inr ⟨j, Finset.mem_univ j, by rw [sel, Bit.select_eq, if_pos (hh j hj)]⟩
  have h2 : least ⊤ (fun x => sel (hard b key x) (val x) ⊤) ≤ val j' := by
    rw [least, Finset.fold_min_le]
    exact Or.inr ⟨j', Finset.mem_univ j', by rw [sel, Bit.select_eq, if_pos (hh j' hj')]⟩
  exact h1.trans (h.trans h2)

/-- Equal candidates, measures and values have equal ties. -/
theorem Tie.congr {b b' : Fin 4096 → Prop} {key key' val val' : Fin 4096 → EReal} (h : Tie b key val) (hb : ∀ j, b j ↔ b' j)
    (hk : ∀ j, key j = key' j) (hv : ∀ j, val j = val' j) : Tie b' key' val' := by
  obtain rfl : key = key' := funext hk
  obtain rfl : val = val' := funext hv
  obtain rfl : b = b' := funext fun j => propext (hb j)
  exact h

/-! ## The operations that the precondition uses, at an index -/

section ops
variable (i j : Fin 4096)

theorem red_max (x : FVec Ideal S4096x4096 .f32) (w : BitVec 32) (h : S4096x4096.ReducesTo [1] S4096) (hu : 0 < S_.numel) :
    Host.reduce FloatOps.maximumf x (constant (F := Ideal) S_ .f32 w) h hu (ix1 i)
      = most (Ideal.ofBits .f32 w) (fun k => x (ix2 i k)) := by
  pointwise

theorem red_min (x : FVec Ideal S4096x4096 .f32) (w : BitVec 32) (h : S4096x4096.ReducesTo [1] S4096) (hu : 0 < S_.numel) :
    Host.reduce FloatOps.minimumf x (constant (F := Ideal) S_ .f32 w) h hu (ix1 i)
      = least (Ideal.ofBits .f32 w) (fun k => x (ix2 i k)) := by
  pointwise

theorem red_or (x : IVec S4096x4096 1) (h : S4096x4096.ReducesTo [1] S4096) (hu : 0 < S_.numel) :
    Host.reduce IntOp.ori x (constantI S_ 1 0#1) h hu (ix1 i) = 1#1 ↔ ∃ k, x (ix2 i k) = 1#1 := by
  pointwise
  simp only [Routing.fold_ori, Finset.mem_univ, true_and]

/-- A conjunction over a row of bits. -/
theorem fold_and {n : ℕ} (f : Fin n → BitVec 1) : Finset.fold IntOp.andi 1#1 f Finset.univ = 1#1 ↔ ∀ k, f k = 1#1 := by
  have := Finset.fold_op_rel_iff_and (op := IntOp.andi) (r := fun (_ x : BitVec 1) => x = 1#1)
    (fun {_ y z} => Bit.and_one y z) (c := 1#1) (b := 1#1) (f := f) (s := Finset.univ)
  rw [this]
  simp

theorem red_and3 (x : IVec S4096x3 1) (h : S4096x3.ReducesTo [1] S4096) (hu : 0 < S_.numel) :
    Host.reduce IntOp.andi x (constantI S_ 1 1#1) h hu (ix1 i) = 1#1 ↔ ∀ k, x (ix2 i k) = 1#1 := by
  pointwise
  refine (fold_and _).trans ⟨fun h => ⟨h 0, h 1, h 2⟩, fun h k => ?_⟩
  fin_cases k
  exacts [h.1, h.2.1, h.2.2]

theorem red_and512 (x : IVec S4096x512 1) (h : S4096x512.ReducesTo [1] S4096) (hu : 0 < S_.numel) :
    Host.reduce IntOp.andi x (constantI S_ 1 1#1) h hu (ix1 i) = 1#1 ↔ ∀ k, x (ix2 i k) = 1#1 := by
  pointwise
  exact fold_and _

theorem where_at (b : IVec S4096x4096 1) (x : FVec Ideal S4096x4096 .f32) (w : BitVec 32) :
    fn_where (F := Ideal) b x (constant S_ .f32 w) (ix2 i j) = sel (b (ix2 i j)) (x (ix2 i j)) (Ideal.ofBits .f32 w) := by
  unfold fn_where
  pointwise
  rfl

theorem hard_at (b : IVec S4096x4096 1) (x : FVec Ideal S4096x4096 .f32) (t : FVec Ideal S4096 .f32) (h1) (h2) :
    (andi b (cmpf .oge x (broadcastInDim S4096x4096 ![0, 1] h2 (broadcastInDim S4096x1 ![0] h1 t)))) (ix2 i j)
      = IntOp.andi (b (ix2 i j)) (leBit (t (ix1 i)) (x (ix2 i j))) := by
  pointwise

theorem dot_at (x : FVec Ideal S4096x512 .f32) (ht) :
    Host.dotGeneral dot_S4096x512_S512x4096_S4096x4096_1_0_0_1_n_n none x (transpose S512x4096 [1, 0] x ht) (ix2 i j)
      = ∑ k : Fin 512, x (ix2 i k) * x (ix2 j k) := by
  pointwise

end ops

/-- As `tie_of`, for bits that are the hard candidates'. -/
theorem tie_of_bits (b c : Fin 4096 → BitVec 1) (key val : Fin 4096 → EReal) (hc : ∀ x, c x = hard b key x)
    (h : most ⊥ (fun x => sel (c x) (val x) ⊥) ≤ least ⊤ (fun x => sel (c x) (val x) ⊤)) : Tie (fun j => b j = 1#1) key val := by
  obtain rfl : c = hard b key := funext hc
  exact tie_of b key val h

section parts
variable (v4 v8 v12 v34 v39 : IVec S4096 1) (v19 v51 v74 : FVec Ideal S4096x4096 .f32) (v31 v32 v71 v37 : IVec S4096x4096 1)
  (v73 : FVec Ideal S4096 .f32) (v57 : FVec Ideal S4096x512 .f32) (i : Fin 4096)

theorem ands_at (v75 v78 v80 : FVec Ideal S4096 .f32)
    (h : (andi (andi (andi (andi (andi v4 v8) v12) v39) (cmpf .ole v73 v75)) (cmpf .ole v78 v80)) (ix1 i) = 1#1) :
    (v4 (ix1 i) = 1#1 ∧ v8 (ix1 i) = 1#1 ∧ v12 (ix1 i) = 1#1 ∧ v39 (ix1 i) = 1#1)
      ∧ v73 (ix1 i) ≤ v75 (ix1 i) ∧ v78 (ix1 i) ≤ v80 (ix1 i) := by
  revert h
  pointwise
  simp only [Bit.and_one, Bit.ofBool_one, decide_eq_true_eq]
  rintro ⟨⟨⟨⟨⟨a, b⟩, c⟩, d⟩, e⟩, f⟩
  exact ⟨⟨a, b, c, d⟩, e, f⟩

theorem part4 (h : fn_part4 (F := Ideal) v4 v8 v12 v39 v51 v71 v73 v74 (ix1 i) = 1#1) :
    (v4 (ix1 i) = 1#1 ∧ v8 (ix1 i) = 1#1 ∧ v12 (ix1 i) = 1#1 ∧ v39 (ix1 i) = 1#1)
      ∧ v73 (ix1 i) ≤ least ⊤ (fun x => v74 (ix2 i x))
      ∧ most ⊥ (fun x => sel (v71 (ix2 i x)) (v51 (ix2 i x)) ⊥)
        ≤ least ⊤ (fun x => sel (v71 (ix2 i x)) (v51 (ix2 i x)) ⊤) := by
  obtain ⟨a, e, f⟩ := ands_at v4 v8 v12 v39 v73 i _ _ _ h
  refine ⟨a, ?_, ?_⟩
  · simpa only [red_min, pos_inf] using e
  · simpa only [red_max, red_min, where_at, neg_inf, pos_inf] using f

theorem part3 (h : fn_part3 (F := Ideal) v4 v8 v12 v19 v31 v32 v39 v51 v57 (ix1 i) = 1#1) :
    (v4 (ix1 i) = 1#1 ∧ v8 (ix1 i) = 1#1 ∧ v12 (ix1 i) = 1#1 ∧ v39 (ix1 i) = 1#1)
      ∧ Tie (fun j => v31 (ix2 i j) = 1#1) (fun j => v19 (ix2 i j)) (fun j => v51 (ix2 i j))
      ∧ Tie (fun j => v32 (ix2 i j) = 1#1) (fun j => ∑ k : Fin 512, v57 (ix2 i k) * v57 (ix2 j k)) (fun j => v51 (ix2 i j)) := by
  unfold fn_part3 at h
  obtain ⟨a, e, f⟩ := part4 _ _ _ _ _ _ _ _ i h
  beta_reduce at e f
  rw [red_max] at e
  simp only [where_at, neg_inf, pos_inf] at e
  refine ⟨a, tie_of_bits (fun j => v31 (ix2 i j)) _ (fun j => v19 (ix2 i j)) (fun j => v51 (ix2 i j)) (fun x => ?_) e,
    (tie_of_bits (fun j => v32 (ix2 i j)) _ (fun j => (Host.dotGeneral dot_S4096x512_S512x4096_S4096x4096_1_0_0_1_n_n none v57
      (transpose S512x4096 [1, 0] v57 Facts.transposes_S4096x512_S512x4096_1_0)) (ix2 i j)) (fun j => v51 (ix2 i j)) (fun x => ?_) f).congr
      (fun _ => Iff.rfl) (fun j => dot_at i j v57 _) fun _ => rfl⟩
  · refine (hard_at i x _ _ _ _ _).trans ?_
    rw [red_max]
    simp only [where_at, neg_inf]
  · refine (hard_at i x _ _ _ _ _).trans ?_
    rw [red_max]
    simp only [where_at, neg_inf]

/-- Twice the rows' products less their squared norms: the squared distance, expanded. -/
def gap (X : FVec Ideal S4096x512 .f32) (i j : Fin 4096) : EReal :=
  ∑ k : Fin 512, X (ix2 i k) * X (ix2 i k) + ∑ k : Fin 512, X (ix2 j k) * X (ix2 j k)
    - Ideal.ofBits .f32 0x40000000#32 * ∑ k : Fin 512, X (ix2 i k) * X (ix2 j k)

/-- A row of the features over its norm. -/
def unit (X : FVec Ideal S4096x512 .f32) (i : Fin 4096) (k : Fin 512) : EReal :=
  Ideal.div (X (ix2 i k)) (max (Ideal.sqrt (∑ k : Fin 512, X (ix2 i k) * X (ix2 i k))) (Ideal.ofBits .f32 0x322BCC77#32))

/-- The cosine of two rows of the features. -/
def cosU (X : FVec Ideal S4096x512 .f32) (i j : Fin 4096) : EReal := ∑ k : Fin 512, unit X i k * unit X j k

theorem part2 (X : FVec Ideal S4096x512 .f32) (h : fn_part2 (F := Ideal) X v4 v8 v12 v19 v31 v32 v34 v37 (ix1 i) = 1#1) :
    (v4 (ix1 i) = 1#1 ∧ v8 (ix1 i) = 1#1 ∧ v12 (ix1 i) = 1#1 ∧ (v34 (ix1 i) = 1#1 ∨ ∃ k, v37 (ix2 i k) = 1#1))
      ∧ Tie (fun j => v31 (ix2 i j) = 1#1) (fun j => v19 (ix2 i j)) (gap X i)
      ∧ Tie (fun j => v32 (ix2 i j) = 1#1) (cosU X i) (gap X i) := by
  unfold fn_part2 at h
  obtain ⟨⟨a, b, c, d⟩, e, f⟩ := part3 _ _ _ _ _ _ _ _ _ i h
  refine ⟨⟨a, b, c, ?_⟩, e.congr (fun _ => Iff.rfl) (fun _ => rfl) fun j => ?_,
    f.congr (fun _ => Iff.rfl) (fun j => Finset.sum_congr rfl fun k _ => congrArg₂ (· * ·) ?_ ?_) fun j => ?_⟩
  · exact ((Bit.or_one _ _).1 d).imp id (red_or i v37 _ _).1
  · unfold gap
    pointwise
  · unfold unit
    pointwise
  · unfold unit
    pointwise
  · unfold gap
    pointwise

/-- The squared distance of two rows of angles. -/
def sqA (A : FVec Ideal S4096x3 .f32) (i j : Fin 4096) : EReal :=
  ∑ k : Fin 3, (A (ix2 i k) - A (ix2 j k)) * (A (ix2 i k) - A (ix2 j k))

/-- The facts of an anchor that the later parts state. -/
def Facts1 (X : FVec Ideal S4096x512 .f32) (L : IVec S4096 32) (A : FVec Ideal S4096x3 .f32) (i : Fin 4096) : Prop :=
  ((¬∃ j, L (ix1 i) = L (ix1 j) ∧ i ≠ j) ∨ ∃ j, (L (ix1 i) = L (ix1 j) ∧ i ≠ j) ∧ Ideal.ofBits .f32 0x3BA40000#32 < sqA A i j)
    ∧ Tie (fun j => L (ix1 i) = L (ix1 j) ∧ i ≠ j) (sqA A i) (gap X i)
    ∧ Tie (fun j => ¬ L (ix1 i) = L (ix1 j)) (cosU X i) (gap X i)

/-- A word plus zero. -/
theorem add_zero_word (x : BitVec 32) : IntOp.addi x 0#32 = x := BitVec.add_zero x

theorem part1 (X : FVec Ideal S4096x512 .f32) (L : IVec S4096 32) (A : FVec Ideal S4096x3 .f32) (v17 : FVec Ideal S4096x4096x3 .f32)
    (hv : ∀ i j k, v17 (ix3 i j k) = A (ix2 i k) - A (ix2 j k))
    (h : fn_part1 (F := Ideal) X L v4 v8 v12 v17 (ix1 i) = 1#1) :
    (v4 (ix1 i) = 1#1 ∧ v8 (ix1 i) = 1#1 ∧ v12 (ix1 i) = 1#1) ∧ Facts1 X L A i := by
  unfold fn_part1 at h
  obtain ⟨⟨a, b, c, d⟩, e, f⟩ := part2 _ _ _ _ _ _ _ _ i _ h
  refine ⟨⟨a, b, c⟩, ?_, e.congr (fun j => ?_) (fun j => ?_) fun _ => rfl, f.congr (fun j => ?_) (fun _ => rfl) fun _ => rfl⟩
  · refine d.imp (fun h h' => ?_) fun ⟨j, hj⟩ => ⟨j, ?_⟩
    · revert h
      pointwise
      simp only [Bit.and_one, Routing.fold_ori, Bit.not_one, Bit.eq_one, add_zero_word, Bit.word_inj, Finset.mem_univ, true_and]
      exact fun hn => hn h'
    · revert hj
      unfold sqA
      pointwise
      simp only [Bit.and_one, Bit.not_one, Bit.eq_one, add_zero_word, Bit.word_inj, Bit.ofBool_one, decide_eq_true_eq, hv]
      exact id
  · pointwise
    simp only [Bit.and_one, Bit.not_one, Bit.eq_one, add_zero_word, Bit.word_inj, ne_eq]
  · unfold sqA
    pointwise
    simp only [hv]
  · pointwise
    simp only [Bit.not_one, Bit.eq_one]

/-- What the precondition says of an anchor: its label is below 256, its angles are at most one, its features are at most `2 ^ 40` in
    magnitude, a positive is farther than the threshold if there is one, and the hardest candidates have one distance. -/
theorem facts (X O : FVec Ideal S4096x512 .f32) (L : IVec S4096 32) (A : FVec Ideal S4096x3 .f32)
    (h : fn (F := Ideal) X L A O = fun _ => 1#1) (i : Fin 4096) :
    ((0 ≤ (L (ix1 i)).toInt ∧ (L (ix1 i)).toInt < 256)
      ∧ (∀ k, max (A (ix2 i k)) (-(A (ix2 i k))) ≤ 1)
      ∧ ∀ k, max (X (ix2 i k)) (-(X (ix2 i k))) ≤ Ideal.ofBits .f32 0x53800000#32)
    ∧ Facts1 X L A i := by
  have h := congrFun h (ix1 i)
  unfold fn at h
  obtain ⟨⟨a, b, c⟩, d⟩ := part1 _ _ _ i X L A _ (fun i j k => by pointwise) h
  refine ⟨⟨?_, fun k => ?_, fun k => ?_⟩, d⟩
  · revert a
    pointwise
    simp only [Bit.and_one]
    simp only [IntOp.cmpi, Bit.ofBool_one, BitVec.sle, BitVec.slt, decide_eq_true_eq]
    have h0 : (0#32).toInt = 0 := by decide
    have h1 : (256#32).toInt = 256 := by decide
    rw [h0, h1]
    exact id
  · have h := (red_and3 i _ _ _).1 b k
    revert h
    pointwise
    simp only [Bit.ofBool_one, decide_eq_true_eq]
    exact id
  · have h := (red_and512 i _ _ _).1 c k
    revert h
    pointwise
    simp only [Bit.ofBool_one, decide_eq_true_eq]
    exact id

end parts

end Cert.Proof.Pre

end
-- ==== Proof.Gap.lean ====
/- The cosine gap between two of the sixteen angles that encode a label digit. -/
module

public import Mathlib.Analysis.SpecialFunctions.Trigonometric.Basic

@[expose] public section

noncomputable section

namespace Cert.Proof.Gap

/-- A lower bound of the circle constant: sixteen times the sine of its sixteenth part. -/
theorem pi_lower : (3.112 : ℝ) < Real.pi := by
  have hp := Real.pi_pos
  have hp4 := Real.pi_le_four
  have h1 : Real.sin (Real.pi / 16) ≤ Real.pi / 16 := by
    have h0 : (0 : ℝ) ≤ Real.pi / 16 := by positivity
    have hle : Real.pi / 16 ≤ 1 := by linarith
    generalize Real.pi / 16 = x at h0 hle ⊢
    have h := (abs_le.1 (Real.sin_bound (x := x) (by rw [abs_of_nonneg h0]; exact hle))).2
    rw [abs_of_nonneg h0] at h
    have h3 : 0 ≤ x ^ 3 := by positivity
    nlinarith [mul_le_mul_of_nonneg_left hle h3]
  rw [Real.sin_pi_div_sixteen] at h1
  have h2 : √(2 : ℝ) ≤ 1.41422 := Real.sqrt_le_iff.2 ⟨by norm_num, by norm_num⟩
  have h3 : √(2 + √(2 : ℝ)) ≤ 1.84777 := Real.sqrt_le_iff.2 ⟨by norm_num, by norm_num; linarith⟩
  have h4 : (0.3895 : ℝ) ≤ √(2 - √(2 + √(2 : ℝ))) := Real.le_sqrt_of_sq_le (by norm_num; linarith)
  linarith

/-- The cosine at 0.33 is at most 0.947. -/
theorem cos_start : Real.cos 0.33 ≤ 0.947 := by
  have h := abs_le.1 (Real.cos_bound (x := 0.33) (by norm_num [abs_le]))
  have e : |(0.33 : ℝ)| = 0.33 := abs_of_pos (by norm_num)
  rw [e] at h
  norm_num at h ⊢
  linarith [h.2]

/-- Away from the multiples of the full turn, the cosine stays at most 0.947. -/
theorem cos_le_of_mem {x : ℝ} (h1 : 0.33 ≤ x) (h2 : x ≤ 2 * Real.pi - 0.33) : Real.cos x ≤ 0.947 := by
  refine le_trans ?_ cos_start
  rcases le_total x Real.pi with h | h
  · exact Real.cos_le_cos_of_nonneg_of_le_pi (by norm_num) h h1
  · have e : Real.cos x = Real.cos (2 * Real.pi - x) := by rw [Real.cos_two_pi_sub]
    rw [e]
    exact Real.cos_le_cos_of_nonneg_of_le_pi (by norm_num) (by linarith) (by linarith)

/-- Two different multiples below sixteen of a step near an eighth of the half turn are at an angle whose cosine is
    at most 0.947. -/
theorem cos_gap {r : ℝ} (h1 : 0.39 ≤ r) (h2 : r ≤ 0.3927) {m n : ℕ} (hm : m < 16) (hn : n < 16) (h : m ≠ n) :
    Real.cos (m * r - n * r) ≤ 0.947 := by
  wlog hlt : n < m generalizing m n
  · have := this hn hm h.symm (by omega)
    rwa [← Real.cos_neg, neg_sub] at this
  obtain ⟨k, rfl⟩ := Nat.exists_eq_add_of_lt hlt
  have hk : ((k : ℝ)) ≤ 14 := by exact_mod_cast (by omega : k ≤ 14)
  have hk0 : (0 : ℝ) ≤ k := by positivity
  have e : ((n + k + 1 : ℕ) : ℝ) * r - n * r = (k + 1) * r := by push_cast; ring
  rw [e]
  have hp := pi_lower
  refine cos_le_of_mem ?_ ?_
  · nlinarith
  · nlinarith

end Cert.Proof.Gap

end
-- ==== Proof.Reals.lean ====
/- The real-number facts of the features' products, the angles' distances and the key products. -/
module

public import Mathlib.Algebra.BigOperators.Fin
public import Mathlib.Algebra.Order.BigOperators.Ring.Finset
public import Mathlib.Analysis.SpecialFunctions.Trigonometric.Basic
public import Mathlib.Data.EReal.Operations
public import Mathlib.Tactic.Linarith
public import Mathlib.Tactic.NormNum
public import Mathlib.Tactic.Positivity
public import Mathlib.Tactic.FieldSimp

@[expose] public section

noncomputable section

namespace Cert.Proof.Reals

/-- A finite sum of real numbers is the same among the extended reals. -/
theorem coe_sum {n : ℕ} (f : Fin n → ℝ) : ∑ k, (f k : EReal) = ((∑ k, f k : ℝ) : EReal) :=
  (map_sum ({ toFun := (↑), map_zero' := EReal.coe_zero, map_add' := EReal.coe_add } : ℝ →+ EReal) f Finset.univ).symm

/-- The larger of two real numbers is the same among the extended reals. -/
theorem coe_max (a b : ℝ) : max (a : EReal) (b : EReal) = ((max a b : ℝ) : EReal) :=
  (EReal.coe_strictMono.monotone.map_max).symm

/-- An extended real whose absolute value is at most a real bound is a real number within it. -/
theorem real_of_bound {e : EReal} {r : ℝ} (h : max e (-e) ≤ (r : EReal)) : ∃ y : ℝ, e = (y : EReal) ∧ |y| ≤ r := by
  have h1 := (le_max_left _ _).trans h
  have h2 := (le_max_right _ _).trans h
  induction e using EReal.rec with
  | bot => exact absurd h2 (by simp)
  | top => exact absurd h1 (by simp)
  | coe y =>
    refine ⟨y, rfl, abs_le.mpr ⟨?_, EReal.coe_le_coe_iff.mp h1⟩⟩
    rw [← EReal.coe_neg, EReal.coe_le_coe_iff] at h2
    linarith

/-- The product of two rows. -/
def dot (f g : Fin 512 → ℝ) : ℝ := ∑ k, f k * g k

/-- The lower bound of a norm. -/
abbrev small : ℝ := 11258999 / 1125899906842624

/-- A row's norm, kept away from zero. -/
def rowNorm (f : Fin 512 → ℝ) : ℝ := max (Real.sqrt (dot f f)) small

/-- The inverse of a row's norm. -/
def rowInv (f : Fin 512 → ℝ) : ℝ := 1 / rowNorm f

theorem dot_comm (f g : Fin 512 → ℝ) : dot f g = dot g f := Finset.sum_congr rfl fun _ _ => mul_comm _ _

theorem dot_nonneg (f : Fin 512 → ℝ) : 0 ≤ dot f f := Finset.sum_nonneg fun _ _ => mul_self_nonneg _

theorem norm_pos (f : Fin 512 → ℝ) : 0 < rowNorm f := lt_of_lt_of_le (by norm_num) (le_max_right _ _)

theorem inv_pos (f : Fin 512 → ℝ) : 0 < rowInv f := one_div_pos.mpr (norm_pos f)

theorem dot_sq (f g : Fin 512 → ℝ) : dot f g ^ 2 ≤ dot f f * dot g g := by
  have h := Finset.sum_mul_sq_le_sq_mul_sq Finset.univ f g
  simpa [dot, sq] using h

theorem dot_inv (f : Fin 512 → ℝ) : dot f f * rowInv f ^ 2 ≤ 1 := by
  have h : dot f f ≤ rowNorm f ^ 2 := by
    calc dot f f = Real.sqrt (dot f f) ^ 2 := (Real.sq_sqrt (dot_nonneg f)).symm
      _ ≤ rowNorm f ^ 2 := pow_le_pow_left₀ (Real.sqrt_nonneg _) (le_max_left _ _) 2
  have hp := norm_pos f
  unfold rowInv
  rw [div_pow, one_pow, mul_one_div, div_le_one (by positivity)]
  exact h

/-- A row's product with a row over its norm is bounded by the other's norm. -/
theorem scaled_sq (f g : Fin 512 → ℝ) : (dot f g * rowInv f) ^ 2 ≤ dot g g := by
  have h1 := dot_sq f g
  have h2 := dot_inv f
  have h3 := dot_nonneg g
  have h4 : 0 ≤ rowInv f ^ 2 := sq_nonneg _
  calc (dot f g * rowInv f) ^ 2 = dot f g ^ 2 * rowInv f ^ 2 := by ring
    _ ≤ dot f f * dot g g * rowInv f ^ 2 := mul_le_mul_of_nonneg_right h1 h4
    _ = dot f f * rowInv f ^ 2 * dot g g := by ring
    _ ≤ 1 * dot g g := mul_le_mul_of_nonneg_right h2 h3
    _ = dot g g := one_mul _

/-- A cosine is at most one in size. -/
theorem cosine_sq (f g : Fin 512 → ℝ) : (dot f g * rowInv f * rowInv g) ^ 2 ≤ 1 := by
  calc (dot f g * rowInv f * rowInv g) ^ 2 = (dot f g * rowInv f) ^ 2 * rowInv g ^ 2 := by ring
    _ ≤ dot g g * rowInv g ^ 2 := mul_le_mul_of_nonneg_right (scaled_sq f g) (sq_nonneg _)
    _ ≤ 1 := dot_inv g

/-- A row's bound. -/
abbrev cap : ℝ := 1099511627776

theorem dot_le (f : Fin 512 → ℝ) (h : ∀ k, |f k| ≤ cap) : dot f f ≤ 512 * cap ^ 2 := by
  have : ∀ k ∈ (Finset.univ : Finset (Fin 512)), f k * f k ≤ cap ^ 2 := fun k _ => by
    rw [← sq, ← sq_abs]
    exact pow_le_pow_left₀ (abs_nonneg _) (h k) 2
  refine (Finset.sum_le_sum this).trans ?_
  simp

theorem abs_dot_le (f g : Fin 512 → ℝ) (hf : ∀ k, |f k| ≤ cap) (hg : ∀ k, |g k| ≤ cap) : |dot f g| ≤ 512 * cap ^ 2 := by
  refine abs_le_of_sq_le_sq ?_ (by positivity)
  have h1 := dot_le f hf
  have h2 := dot_le g hg
  calc dot f g ^ 2 ≤ dot f f * dot g g := dot_sq f g
    _ ≤ (512 * cap ^ 2) * (512 * cap ^ 2) := mul_le_mul h1 h2 (dot_nonneg g) (by positivity)
    _ = (512 * cap ^ 2) ^ 2 := by ring

/-- The squared distance of two rows by their products. -/
theorem dist_eq (f g : Fin 512 → ℝ) :
    ∑ k, (f k - g k) * (f k - g k) = (dot g g - 2 * dot g f) + dot f f := by
  unfold dot
  rw [Finset.mul_sum, ← Finset.sum_sub_distrib, ← Finset.sum_add_distrib]
  exact Finset.sum_congr rfl fun k _ => by ring

/-- The squared distance of two rows of angles. -/
def dist3 (a b : Fin 3 → ℝ) : ℝ := ∑ k, (a k - b k) * (a k - b k)

theorem dist3_self (a : Fin 3 → ℝ) : dist3 a a = 0 := by simp [dist3]

theorem dist3_nonneg (a b : Fin 3 → ℝ) : 0 ≤ dist3 a b := Finset.sum_nonneg fun _ _ => mul_self_nonneg _

theorem dist3_le (a b : Fin 3 → ℝ) (ha : ∀ k, |a k| ≤ 1) (hb : ∀ k, |b k| ≤ 1) : dist3 a b ≤ 12 := by
  have : ∀ k ∈ (Finset.univ : Finset (Fin 3)), (a k - b k) * (a k - b k) ≤ 4 := fun k _ => by
    have h1 := abs_le.mp (ha k)
    have h2 := abs_le.mp (hb k)
    nlinarith
  refine (Finset.sum_le_sum this).trans ?_
  simp
  norm_num

/-- The angle of one step of a digit. -/
abbrev step : ℝ := 13176795 / 33554432

/-- A row of the left keys, as real numbers. -/
def leftReal (a : Fin 3 → ℝ) (l : ℕ) : Fin 16 → ℝ :=
  ![a 0, a 1, a 2, ∑ k, a k * a k, 1,
    256 * Real.cos ((l % 16 : ℕ) * step), 256 * Real.sin ((l % 16 : ℕ) * step),
    256 * Real.cos ((l / 16 : ℕ) * step), 256 * Real.sin ((l / 16 : ℕ) * step),
    0, 0, 0, 0, 0, 0, 0]

/-- A row of the right keys, as real numbers. -/
def rightReal (a : Fin 3 → ℝ) (l : ℕ) : Fin 16 → ℝ :=
  ![-2 * a 0, -2 * a 1, -2 * a 2, 1, ∑ k, a k * a k,
    Real.cos ((l % 16 : ℕ) * step), Real.sin ((l % 16 : ℕ) * step),
    Real.cos ((l / 16 : ℕ) * step), Real.sin ((l / 16 : ℕ) * step),
    0, 0, 0, 0, 0, 0, 0]

/-- What the digits add to a key. -/
def digits (l l' : ℕ) : ℝ :=
  256 * (Real.cos ((l % 16 : ℕ) * step - (l' % 16 : ℕ) * step) + Real.cos ((l / 16 : ℕ) * step - (l' / 16 : ℕ) * step))

/-- The product of two keys is the angles' squared distance and the digits' part. -/
theorem key_real (a b : Fin 3 → ℝ) (l l' : ℕ) :
    ∑ k, leftReal b l k * rightReal a l' k = dist3 a b + digits l l' := by
  unfold digits dist3
  rw [Real.cos_sub, Real.cos_sub]
  simp [leftReal, rightReal, Fin.sum_univ_succ]
  ring

end Cert.Proof.Reals

end
-- ==== Proof.Decode.lean ====
/- The two programs' quantities as real numbers, for arguments that are real numbers. -/
module

public import proofs.«01_k».proof.Proof.KrnKeys
public import proofs.«01_k».proof.Proof.PreFacts
public import proofs.«01_k».proof.Proof.Gap
public import proofs.«01_k».proof.Proof.Reals

@[expose] public section

set_option maxRecDepth 200000

noncomputable section

open Idealize.ShloMosaic

namespace Cert.Proof.Equation

open Cert.KernelIdeal Reals Krn

/-- Equal labels' digits. -/
theorem digits_self (l : ℕ) : digits l l = 512 := by
  unfold digits
  rw [sub_self, sub_self, Real.cos_zero]
  norm_num

/-- Different labels differ in a digit, whose cosine is smaller. -/
theorem digits_lt {l l' : ℕ} (h : l < 256) (h' : l' < 256) (hne : l ≠ l') : digits l l' ≤ 499 - 0.5 := by
  have g := @Gap.cos_gap step (by norm_num) (by norm_num)
  have o1 := Real.cos_le_one ((l % 16 : ℕ) * step - (l' % 16 : ℕ) * step)
  have o2 := Real.cos_le_one ((l / 16 : ℕ) * step - (l' / 16 : ℕ) * step)
  unfold digits
  by_cases e : l % 16 = l' % 16
  · have := g (m := l / 16) (n := l' / 16) (by omega) (by omega) (by omega)
    linarith
  · have := g (m := l % 16) (n := l' % 16) (by omega) (by omega) e
    linarith

section
variable {X : FVec Ideal S4096x512 .f32} {A : FVec Ideal S4096x3 .f32} {L : IVec S4096 32}
variable {x : Fin 4096 → Fin 512 → ℝ} {a : Fin 4096 → Fin 3 → ℝ} {l : Fin 4096 → Fin 256}

theorem dotX_real (hx : ∀ i k, X (ix2 i k) = ((x i k : ℝ) : EReal)) (j i : Fin 4096) :
    ∑ k : Fin 512, X (ix2 j k) * X (ix2 i k) = ((dot (x j) (x i) : ℝ) : EReal) := by
  simp only [hx, ← EReal.coe_mul]
  exact coe_sum _

/-- A row's norm. -/
theorem norm_real (hx : ∀ i k, X (ix2 i k) = ((x i k : ℝ) : EReal)) (i : Fin 4096) :
    max (Ideal.sqrt (∑ k : Fin 512, X (ix2 i k) * X (ix2 i k))) (Ideal.ofBits .f32 0x322BCC77#32) = ((rowNorm (x i) : ℝ) : EReal) := by
  rw [dotX_real hx, Ideal.sqrt_coe, if_neg (not_lt.mpr (dot_nonneg _)), Lit.eps8, coe_max]
  rfl

theorem invX_real (hx : ∀ i k, X (ix2 i k) = ((x i k : ℝ) : EReal)) (j : Fin 4096) : invX X j = ((rowInv (x j) : ℝ) : EReal) := by
  unfold invX dotX
  rw [norm_real hx, Ideal.div_coe (norm_pos _).ne', one_mul]
  rfl

theorem carry_real (hx : ∀ i k, X (ix2 i k) = ((x i k : ℝ) : EReal)) (j i : Fin 4096) :
    carry X j i = ((dot (x j) (x j) - 2 * dot (x j) (x i) : ℝ) : EReal) := by
  unfold carry dotX
  rw [dotX_real hx, dotX_real hx, Lit.two, ← EReal.coe_mul, ← EReal.coe_sub]

theorem gap_real (hx : ∀ i k, X (ix2 i k) = ((x i k : ℝ) : EReal)) (i j : Fin 4096) :
    Pre.gap X i j = ((dot (x i) (x i) + (dot (x j) (x j) - 2 * dot (x j) (x i)) : ℝ) : EReal) := by
  unfold Pre.gap
  rw [dotX_real hx, dotX_real hx, dotX_real hx, Lit.two, ← EReal.coe_mul, ← EReal.coe_add, ← EReal.coe_sub, dot_comm (x j) (x i), add_sub_assoc]

theorem cosine_real (hx : ∀ i k, X (ix2 i k) = ((x i k : ℝ) : EReal)) (i j : Fin 4096) :
    RefRun.cosine X i j = ((dot (x j) (x i) * rowInv (x j) * rowInv (x i) : ℝ) : EReal) := by
  unfold RefRun.cosine
  rw [norm_real hx, norm_real hx]
  simp only [hx, Ideal.div_coe (norm_pos _).ne', ← EReal.coe_mul]
  rw [coe_sum]
  refine congrArg _ ?_
  unfold dot rowInv
  rw [Finset.sum_mul, Finset.sum_mul]
  exact Finset.sum_congr rfl fun k _ => by ring

theorem cosU_real (hx : ∀ i k, X (ix2 i k) = ((x i k : ℝ) : EReal)) (i j : Fin 4096) :
    Pre.cosU X i j = ((dot (x j) (x i) * rowInv (x j) * rowInv (x i) : ℝ) : EReal) := cosine_real hx i j

/-- The distance of two rows of features. -/
theorem featDist_real (hx : ∀ i k, X (ix2 i k) = ((x i k : ℝ) : EReal)) (i p : Fin 4096) :
    RefRun.featDist X i p = Ideal.sqrt (((dot (x p) (x p) - 2 * dot (x p) (x i) + dot (x i) (x i) : ℝ) : EReal) + Ideal.ofBits .f32 0x2B8CBCCC#32) := by
  unfold RefRun.featDist
  simp only [hx, ← EReal.coe_sub, ← EReal.coe_mul]
  rw [coe_sum, dist_eq]

/-- What the kernel makes of a row's carried value is the distance. -/
theorem kdist_real (hx : ∀ i k, X (ix2 i k) = ((x i k : ℝ) : EReal)) (i p : Fin 4096) :
    kdist X i ((dot (x p) (x p) - 2 * dot (x p) (x i) : ℝ) : EReal) = RefRun.featDist X i p := by
  rw [featDist_real hx]
  unfold kdist
  rw [dotX_real hx, ← EReal.coe_add, max_eq_left]
  rw [← EReal.coe_zero, EReal.coe_le_coe_iff, ← dist_eq]
  exact Finset.sum_nonneg fun _ _ => mul_self_nonneg _

theorem sqA_real (ha : ∀ i k, A (ix2 i k) = ((a i k : ℝ) : EReal)) (i j : Fin 4096) :
    ∑ k : Fin 3, (A (ix2 i k) - A (ix2 j k)) * (A (ix2 i k) - A (ix2 j k)) = ((dist3 (a i) (a j) : ℝ) : EReal) := by
  simp only [ha, ← EReal.coe_sub, ← EReal.coe_mul]
  exact coe_sum _

/-- The distances' small term. -/
abbrev tiny : ℝ := 2305843 / 2305843009213693952

theorem angDist_real (ha : ∀ i k, A (ix2 i k) = ((a i k : ℝ) : EReal)) (i j : Fin 4096) :
    RefRun.angDist A i j = ((Real.sqrt (dist3 (a i) (a j) + tiny) : ℝ) : EReal) := by
  unfold RefRun.angDist
  have h := dist3_nonneg (a i) (a j)
  rw [sqA_real ha, Lit.eps12, ← EReal.coe_add, Ideal.sqrt_coe, if_neg]
  exact not_lt.mpr (add_nonneg h (by norm_num))

theorem cos_real (w : BitVec 32) (n : ℕ) (hw : w = BitVec.ofNat 32 n) (h : n < 16) : Ideal.cos (ang w) = ((Real.cos (n * step) : ℝ) : EReal) := by
  rw [hw, ang_eq n h, Ideal.cos_coe]

theorem sin_real (w : BitVec 32) (n : ℕ) (hw : w = BitVec.ofNat 32 n) (h : n < 16) : Ideal.sin (ang w) = ((Real.sin (n * step) : ℝ) : EReal) := by
  rw [hw, ang_eq n h, Ideal.sin_coe]

theorem normA_real (ha : ∀ i k, A (ix2 i k) = ((a i k : ℝ) : EReal)) (j : Fin 4096) : normA A j = ((∑ k, a j k * a j k : ℝ) : EReal) := by
  unfold normA
  simp only [ha, ← EReal.coe_mul]
  exact coe_sum _

/-- A number of the left keys that has the digits' weight. -/
theorem weigh {e : EReal} {r : ℝ} (h : e = (r : EReal)) : Ideal.ofBits .f32 0x43800000#32 * e = ((256 * r : ℝ) : EReal) := by
  rw [h, Lit.big, EReal.coe_mul]

/-- A number of the right keys that is minus twice an angle. -/
theorem twice {e : EReal} {r : ℝ} (h : e = (r : EReal)) : Ideal.ofBits .f32 0xC0000000#32 * e = ((-2 * r : ℝ) : EReal) := by
  rw [h, Lit.mtwo, EReal.coe_mul]

theorem leftKey_real (ha : ∀ i k, A (ix2 i k) = ((a i k : ℝ) : EReal)) (hl : ∀ i, L (ix1 i) = BitVec.ofNat 32 (l i).val)
    (j : Fin 4096) (k : Fin 16) : leftKey A L j k = ((leftReal (a j) (l j).val k : ℝ) : EReal) := by
  have e1 : lo (L (ix1 j)) = BitVec.ofNat 32 ((l j).val % 16) := by rw [hl, lo_eq]
  have e2 : hi (L (ix1 j)) = BitVec.ofNat 32 ((l j).val / 16) := by rw [hl, hi_eq]
  have b1 : (l j).val % 16 < 16 := by omega
  have b2 : (l j).val / 16 < 16 := by omega
  rcases positions k with rfl | rfl | rfl | rfl | rfl | rfl | rfl | rfl | rfl | rfl | rfl | rfl | rfl | rfl | rfl | rfl
  · exact ha j 0
  · exact ha j 1
  · exact ha j 2
  · exact normA_real ha j
  · exact EReal.coe_one.symm
  · exact weigh (cos_real _ _ e1 b1)
  · exact weigh (sin_real _ _ e1 b1)
  · exact weigh (cos_real _ _ e2 b2)
  · exact weigh (sin_real _ _ e2 b2)
  all_goals exact EReal.coe_zero.symm

theorem rightKey_real (ha : ∀ i k, A (ix2 i k) = ((a i k : ℝ) : EReal)) (hl : ∀ i, L (ix1 i) = BitVec.ofNat 32 (l i).val)
    (j : Fin 4096) (k : Fin 16) : rightKey A L j k = ((rightReal (a j) (l j).val k : ℝ) : EReal) := by
  have e1 : lo (L (ix1 j)) = BitVec.ofNat 32 ((l j).val % 16) := by rw [hl, lo_eq]
  have e2 : hi (L (ix1 j)) = BitVec.ofNat 32 ((l j).val / 16) := by rw [hl, hi_eq]
  have b1 : (l j).val % 16 < 16 := by omega
  have b2 : (l j).val / 16 < 16 := by omega
  rcases positions k with rfl | rfl | rfl | rfl | rfl | rfl | rfl | rfl | rfl | rfl | rfl | rfl | rfl | rfl | rfl | rfl
  · exact twice (ha j 0)
  · exact twice (ha j 1)
  · exact twice (ha j 2)
  · exact EReal.coe_one.symm
  · exact normA_real ha j
  · exact cos_real _ _ e1 b1
  · exact sin_real _ _ e1 b1
  · exact cos_real _ _ e2 b2
  · exact sin_real _ _ e2 b2
  all_goals exact EReal.coe_zero.symm

/-- The positive key is the angles' squared distance and the digits' part. -/
theorem key_eq {P : FVec Ideal S4096x16 .f32} {R : FVec Ideal S16x4096 .f32}
    (hP : ∀ j k, P (ix2 j k) = leftKey A L j k) (hR : ∀ i k, R (ix2 k i) = rightKey A L i k)
    (ha : ∀ i k, A (ix2 i k) = ((a i k : ℝ) : EReal)) (hl : ∀ i, L (ix1 i) = BitVec.ofNat 32 (l i).val) (j i : Fin 4096) :
    key P R j i = ((dist3 (a i) (a j) + digits (l j).val (l i).val : ℝ) : EReal) := by
  unfold key
  simp only [hP, hR, leftKey_real ha hl, rightKey_real ha hl, ← EReal.coe_mul]
  rw [coe_sum, key_real]

end

end Cert.Proof.Equation

end
-- ==== Proof.Equation.lean ====
/- For admissible arguments, each anchor's validity and loss are those of the reference. -/
module

public import proofs.«01_k».proof.Proof.Decode

@[expose] public section

set_option maxRecDepth 200000

noncomputable section

open Idealize.ShloMosaic

namespace Cert.Proof.Equation

open Cert.KernelIdeal Reals Krn

attribute [local instance] Cert.Pre_admissible.Gen.facts

/-- The arguments as real numbers and small labels, within the precondition's bounds. -/
structure Numbers (X : FVec Ideal S4096x512 .f32) (A : FVec Ideal S4096x3 .f32) (L : IVec S4096 32)
    (x : Fin 4096 → Fin 512 → ℝ) (a : Fin 4096 → Fin 3 → ℝ) (l : Fin 4096 → Fin 256) : Prop where
  x_eq : ∀ i k, X (ix2 i k) = ((x i k : ℝ) : EReal)
  a_eq : ∀ i k, A (ix2 i k) = ((a i k : ℝ) : EReal)
  l_eq : ∀ i, L (ix1 i) = BitVec.ofNat 32 (l i).val
  x_le : ∀ i k, |x i k| ≤ cap
  a_le : ∀ i k, |a i k| ≤ 1
  facts : ∀ i, Pre.Facts1 X L A i

/-- Admissible arguments are such numbers. -/
theorem numbers (X O : FVec Ideal S4096x512 .f32) (L : IVec S4096 32) (A : FVec Ideal S4096x3 .f32)
    (h : Cert.Pre_admissible.fn (F := Ideal) X L A O = fun _ => 1#1) :
    ∃ x a l, Numbers X A L x a l := by
  have f := Pre.facts X O L A h
  have hx : ∀ i, ∃ x : Fin 512 → ℝ, ∀ k, X (ix2 i k) = ((x k : ℝ) : EReal) ∧ |x k| ≤ cap := fun i =>
    Classical.skolem.mp fun k => real_of_bound (Lit.bound ▸ (f i).1.2.2 k)
  have ha : ∀ i, ∃ a : Fin 3 → ℝ, ∀ k, A (ix2 i k) = ((a k : ℝ) : EReal) ∧ |a k| ≤ 1 := fun i =>
    Classical.skolem.mp fun k => real_of_bound (EReal.coe_one ▸ (f i).1.2.1 k)
  have hl : ∀ i, ∃ l : Fin 256, L (ix1 i) = BitVec.ofNat 32 l.val := fun i => by
    obtain ⟨h0, h1⟩ := (f i).1.1
    have hn : (L (ix1 i)).toNat < 256 := by
      rw [BitVec.toInt_eq_toNat_cond] at h0 h1
      split at h0 <;> omega
    exact ⟨⟨(L (ix1 i)).toNat, hn⟩, by simp⟩
  choose x hx using hx
  choose a ha using ha
  choose l hl using hl
  exact ⟨x, a, l, fun i k => (hx i k).1, fun i k => (ha i k).1, hl, fun i k => (hx i k).2, fun i k => (ha i k).2, fun i => (f i).2⟩

namespace Numbers
variable {X : FVec Ideal S4096x512 .f32} {A : FVec Ideal S4096x3 .f32} {L : IVec S4096 32}
variable {x : Fin 4096 → Fin 512 → ℝ} {a : Fin 4096 → Fin 3 → ℝ} {l : Fin 4096 → Fin 256} (h : Numbers X A L x a l)
include h

/-- Equal label words are equal labels. -/
theorem label_iff (i j : Fin 4096) : L (ix1 i) = L (ix1 j) ↔ l i = l j := by
  rw [h.l_eq, h.l_eq]
  refine ⟨fun e => Fin.ext ?_, fun e => by rw [e]⟩
  have e := congrArg BitVec.toNat e
  rw [BitVec.toNat_ofNat, BitVec.toNat_ofNat] at e
  have := (l i).isLt
  have := (l j).isLt
  omega

theorem angDist_le (i j k : Fin 4096) (e : RefRun.angDist A i j ≤ RefRun.angDist A i k) : dist3 (a i) (a j) ≤ dist3 (a i) (a k) := by
  rw [angDist_real h.a_eq, angDist_real h.a_eq, EReal.coe_le_coe_iff] at e
  have h1 := dist3_nonneg (a i) (a k)
  have h2 := (Real.sqrt_le_sqrt_iff (add_nonneg h1 (by norm_num))).mp e
  linarith

/-- No angle distance reaches fifteen. -/
theorem angDist_lt (i j : Fin 4096) : RefRun.angDist A i j < Ideal.ofBits .f32 0x41700000#32 := by
  rw [angDist_real h.a_eq, Lit.c15, EReal.coe_lt_coe_iff, Real.sqrt_lt' (by norm_num)]
  have := dist3_le (a i) (a j) (h.a_le i) (h.a_le j)
  norm_num
  linarith

theorem far_angDist (i j : Fin 4096) : Ideal.ofBits .f32 0xF149F2CA#32 < RefRun.angDist A i j := by
  rw [angDist_real h.a_eq, Lit.nbig, EReal.coe_lt_coe_iff]
  exact lt_of_lt_of_le (by norm_num) (Real.sqrt_nonneg _)

theorem far_cosine (i j : Fin 4096) : Ideal.ofBits .f32 0xF149F2CA#32 < RefRun.cosine X i j := by
  rw [cosine_real h.x_eq, Lit.nbig, EReal.coe_lt_coe_iff]
  have := abs_le_of_sq_le_sq ((cosine_sq (x j) (x i)).trans_eq (one_pow 2).symm) zero_le_one
  have := (abs_le.mp this).1
  linarith

theorem cosine_le (i j k : Fin 4096) : Pre.cosU X i j ≤ Pre.cosU X i k ↔
    dot (x j) (x i) * rowInv (x j) ≤ dot (x k) (x i) * rowInv (x k) := by
  rw [cosU_real h.x_eq, cosU_real h.x_eq, EReal.coe_le_coe_iff]
  exact mul_le_mul_iff_left₀ (inv_pos (x i))

theorem gap_eq {i j k : Fin 4096} (h1 : Pre.gap X i j ≤ Pre.gap X i k) (h2 : Pre.gap X i k ≤ Pre.gap X i j) :
    dot (x j) (x j) - 2 * dot (x j) (x i) = dot (x k) (x k) - 2 * dot (x k) (x i) := by
  rw [gap_real h.x_eq, gap_real h.x_eq, EReal.coe_le_coe_iff] at h1 h2
  linarith

/-- An anchor's row of the kernel separates positives from negatives. -/
theorem anchor {P : FVec Ideal S4096x16 .f32} {R : FVec Ideal S16x4096 .f32}
    (hP : ∀ j k, P (ix2 j k) = leftKey A L j k) (hR : ∀ i k, R (ix2 k i) = rightKey A L i k) (i : Fin 4096) :
    Row.Anchor i (fun j => L (ix1 i) = L (ix1 j)) (fun j => dist3 (a i) (a j)) (fun j => dot (x j) (x i) * rowInv (x j))
      (fun j => dot (x j) (x j) - 2 * dot (x j) (x i)) (fun j => key P R j i) (fun j => dotX X j i * invX X j) where
  self := rfl
  zero := dist3_self _
  nonneg j := dist3_nonneg _ _
  same j e := by
    rw [key_eq hP hR h.a_eq h.l_eq, (h.label_iff i j).mp e, digits_self, add_comm]
  other j e := by
    rw [key_eq hP hR h.a_eq h.l_eq, EReal.coe_lt_coe_iff]
    have h1 := dist3_le (a i) (a j) (h.a_le i) (h.a_le j)
    have h2 := digits_lt (l j).isLt (l i).isLt fun c => e ((h.label_iff i j).mpr (Fin.ext c.symm))
    linarith
  scaled j := by
    unfold dotX
    rw [dotX_real h.x_eq, invX_real h.x_eq, ← EReal.coe_mul]
  bounded j := by
    have h1 := (scaled_sq (x j) (x i)).trans (dot_le (x i) (h.x_le i))
    have h2 := abs_le_of_sq_le_sq (h1.trans (b := 512 * cap ^ 2) (c := (100 * cap) ^ 2) (by norm_num)) (by norm_num)
    have h3 := (abs_le.mp h2).1
    norm_num at h3 ⊢
    linarith
  low j := by
    have h1 := dot_nonneg (x j)
    have h2 := (abs_le.mp (abs_dot_le (x j) (x i) (h.x_le j) (h.x_le i))).2
    norm_num at h2 ⊢
    linarith
  spread := fun ⟨j, e, n⟩ => by
    rcases (h.facts i).1 with c | ⟨k, ⟨e', n'⟩, c⟩
    · exact absurd ⟨j, e, fun t => n t.symm⟩ c
    · refine ⟨k, ⟨e', fun t => n' t.symm⟩, ?_⟩
      unfold Pre.sqA at c
      rwa [sqA_real h.a_eq, Lit.spread, EReal.coe_lt_coe_iff] at c
  tie_pos j j' e e' m m' := by
    have up : ∀ t, (∀ k, L (ix1 i) = L (ix1 k) ∧ k ≠ i → dist3 (a i) (a k) ≤ dist3 (a i) (a t)) →
        ∀ k, L (ix1 i) = L (ix1 k) ∧ i ≠ k → Pre.sqA A i k ≤ Pre.sqA A i t := fun t m k ek => by
      unfold Pre.sqA
      rw [sqA_real h.a_eq, sqA_real h.a_eq, EReal.coe_le_coe_iff]
      exact m k ⟨ek.1, fun c => ek.2 c.symm⟩
    have b := And.intro (And.intro e.1 e.2.symm) (up j m)
    have b' := And.intro (And.intro e'.1 e'.2.symm) (up j' m')
    exact h.gap_eq ((h.facts i).2.1 j j' b b') ((h.facts i).2.1 j' j b' b)
  tie_neg j j' e e' m m' := by
    have b := And.intro e fun k ek => (h.cosine_le i k j).mpr (m k ek)
    have b' := And.intro e' fun k ek => (h.cosine_le i k j').mpr (m' k ek)
    exact h.gap_eq ((h.facts i).2.2 j j' b b') ((h.facts i).2.2 j' j b' b)

/-- A row that the reference ranks highest among the positives is a farthest positive. -/
theorem pos_max {i p : Fin 4096} (hv : RefRun.Valid L i) (m : ∀ k, RefRun.posKey A L i k ≤ RefRun.posKey A L i p) :
    (L (ix1 i) = L (ix1 p) ∧ p ≠ i) ∧ ∀ k, L (ix1 i) = L (ix1 k) ∧ k ≠ i → dist3 (a i) (a k) ≤ dist3 (a i) (a p) := by
  have hp : L (ix1 i) = L (ix1 p) ∧ i ≠ p := by
    by_contra c
    obtain ⟨k, hk⟩ := hv.1
    have := m k
    unfold RefRun.posKey at this
    rw [if_pos hk, if_neg c] at this
    exact absurd (h.far_angDist i k) (not_lt.mpr this)
  refine ⟨⟨hp.1, fun c => hp.2 c.symm⟩, fun k hk => ?_⟩
  have := m k
  unfold RefRun.posKey at this
  rw [if_pos ⟨hk.1, fun c => hk.2 c.symm⟩, if_pos hp] at this
  exact h.angDist_le i k p this

/-- A row that the reference ranks highest among the negatives is a negative of the largest cosine. -/
theorem neg_max {i q : Fin 4096} (hv : RefRun.Valid L i) (m : ∀ k, RefRun.negKey X A L i k ≤ RefRun.negKey X A L i q) :
    (¬ L (ix1 i) = L (ix1 q)) ∧ ∀ k, ¬ L (ix1 i) = L (ix1 k) → dot (x k) (x i) * rowInv (x k) ≤ dot (x q) (x i) * rowInv (x q) := by
  have l30 : Ideal.ofBits .f32 0x41700000#32 ≤ Ideal.ofBits .f32 0x41F00000#32 := by
    rw [Lit.c15, Lit.c30, EReal.coe_le_coe_iff]; norm_num
  have near : ∀ k, RefRun.angDist A i k < Ideal.ofBits .f32 0x41F00000#32 := fun k => (h.angDist_lt i k).trans_le l30
  have hq : ¬ L (ix1 i) = L (ix1 q) := by
    intro c
    obtain ⟨k, hk⟩ := hv.2
    have := m k
    unfold RefRun.negKey at this
    rw [if_pos ⟨hk, near k⟩, if_neg fun t => t.1 c] at this
    exact absurd (h.far_cosine i k) (not_lt.mpr this)
  refine ⟨hq, fun k hk => (h.cosine_le i k q).mp ?_⟩
  have := m k
  unfold RefRun.negKey at this
  rwa [if_pos ⟨hk, near k⟩, if_pos ⟨hq, near q⟩] at this

section
variable {P : FVec Ideal S4096x16 .f32} {R : FVec Ideal S16x4096 .f32}
  (hP : ∀ j k, P (ix2 j k) = leftKey A L j k) (hR : ∀ i k, R (ix2 k i) = rightKey A L i k)
include hP hR

omit h hP hR in
/-- The kernel's negative key is the scaled product outside the anchor's label. -/
theorem nkey_eq (i : Fin 4096) : nkey X P R i = Row.negval (fun j => key P R j i) (fun j => dotX X j i * invX X j) := by
  funext j
  unfold nkey Row.negval
  rw [Lit.eq, Lit.nbig]

/-- The kernel and the reference agree on which anchors are valid. -/
theorem valid_eq (i : Fin 4096) : kvalid X P R i = RefRun.validNum L i := by
  have an := h.anchor hP hR i
  have e1 : (Ideal.ofBits .f32 0x44000052#32 < Row.top fun j => key P R j i) ↔ ∃ k, L (ix1 i) = L (ix1 k) ∧ i ≠ k := by
    have := an.has_pos
    rw [show (512 + 41 / 8192 : ℝ) = 4194345 / 8192 by norm_num] at this
    rw [Lit.thr, this]
    exact exists_congr fun k => and_congr_right fun _ => ne_comm
  have e2 : (Ideal.ofBits .f32 0xF0C9F2CA#32 < Row.top (nkey X P R i)) ↔ ∃ k, ¬ L (ix1 i) = L (ix1 k) := by
    have := an.has_neg
    rw [show (-(Row.far / 2) : ℝ) = -500000007523733109938344427520 by norm_num] at this
    rw [Lit.nhalf, nkey_eq, this]
  unfold kvalid RefRun.validNum
  by_cases hv : RefRun.Valid L i
  · rw [if_pos hv, if_pos ⟨e1.mpr hv.1, e2.mpr hv.2⟩]
  · rw [if_neg hv, if_neg fun t => hv ⟨e1.mp t.1, e2.mp t.2⟩]

/-- The kernel's distance of the hardest positive. -/
theorem pos_eq {i p : Fin 4096} (hp : L (ix1 i) = L (ix1 p) ∧ p ≠ i)
    (m : ∀ k, L (ix1 i) = L (ix1 k) ∧ k ≠ i → dist3 (a i) (a k) ≤ dist3 (a i) (a p)) :
    kdist X i (posCarry X P R i) = RefRun.featDist X i p := by
  rw [← kdist_real h.x_eq i p]
  refine congrArg _ (Eq.trans ?_ ((h.anchor hP hR i).pick_pos hp m))
  unfold posCarry
  simp only [carry_real h.x_eq, Lit.nbig]

/-- The kernel's distance of the hardest negative. -/
theorem neg_eq {i q : Fin 4096} (hq : ¬ L (ix1 i) = L (ix1 q))
    (m : ∀ k, ¬ L (ix1 i) = L (ix1 k) → dot (x k) (x i) * rowInv (x k) ≤ dot (x q) (x i) * rowInv (x q)) :
    kdist X i (negCarry X P R i) = RefRun.featDist X i q := by
  rw [← kdist_real h.x_eq i q]
  refine congrArg _ (Eq.trans ?_ ((h.anchor hP hR i).pick_neg hq m))
  unfold negCarry
  rw [nkey_eq]
  simp only [carry_real h.x_eq, Lit.nbig]

/-- The loss of each anchor is that of the reference. -/
theorem loss_eq (i : Fin 4096) (loss : EReal) (h0 : ¬ RefRun.Valid L i → loss = 0)
    (h1 : RefRun.Valid L i → ∃ p q, (∀ k, RefRun.posKey A L i k ≤ RefRun.posKey A L i p) ∧ (∀ k, RefRun.negKey X A L i k ≤ RefRun.negKey X A L i q)
      ∧ loss = Ideal.ofBits .f32 0x3FC00000#32 * RefRun.hinge (RefRun.featDist X i p) (RefRun.featDist X i q)) :
    kloss X P R i = loss := by
  unfold kloss
  rw [h.valid_eq hP hR]
  unfold RefRun.validNum
  by_cases hv : RefRun.Valid L i
  · obtain ⟨p, q, mp, mq, e⟩ := h1 hv
    obtain ⟨hp, mp⟩ := h.pos_max hv mp
    obtain ⟨hq, mq⟩ := h.neg_max hv mq
    rw [if_pos hv, mul_one, h.pos_eq hP hR hp mp, h.neg_eq hP hR hq mq, e]
    rfl
  · rw [if_neg hv, mul_zero, h0 hv]

end

end Numbers

end Cert.Proof.Equation

end
-- ==== Proof.Whole.lean ====
/- The value claim: on admissible arguments the kernel's result is the reference's. -/
module

public import proofs.«01_k».proof.Defs
public import proofs.«01_k».proof.Proof.Equation
public import proofs.«01_k».proof.Proof.RefRun

@[expose] public section

set_option maxRecDepth 200000

noncomputable section

open Idealize.ShloMosaic Idealize.SL.Sem Idealize.ShloMosaic.TcCoe Idealize.ShloMosaic.StableHlo

namespace Cert.Proof.Whole

attribute [local instance] Cert.KernelIdeal.Gen.facts Cert.ReferenceIdeal.Gen.facts Cert.Pre_admissible.Gen.facts

section
variable (m : (ℓ : Loc Cert.KernelIdeal.nD Cert.KernelIdeal.τ Cert.KernelIdeal.sig) → Buf (Elt Ideal) ℓ) (c : Dev Cert.KernelIdeal.nD)

/-- The reference, started on the kernel's admissible arguments, ends with the kernel's result. -/
theorem value_eq (V : Valuation Cert.ReferenceIdeal.τ Cert.ReferenceIdeal.sig (Elt Ideal))
    (X O : FVec Ideal Cert.KernelIdeal.S4096x512 .f32) (A : FVec Ideal Cert.KernelIdeal.S4096x3 .f32) (L : IVec Cert.KernelIdeal.S4096 32)
    (hX : V (Proc.devRef .tc Cert.ReferenceIdeal.main_arg0) = X) (hL : V (Proc.devRef .tc Cert.ReferenceIdeal.main_arg1) = L)
    (hA : V (Proc.devRef .tc Cert.ReferenceIdeal.main_arg2) = A) (hO : V (Proc.devRef .tc Cert.ReferenceIdeal.main_arg3) = O)
    (kX : Krn.feats m c = X) (kL : Krn.labels m c = L) (kA : Krn.angles m c = A) (kO : Krn.origs m c = O)
    (hpre : Cert.Pre_admissible.fn (F := Ideal) X L A O = fun _ => 1#1) :
    RefRun.fv Cert.ReferenceIdeal.S1x1 (after RefRun.win2.1 (after RefRun.win1.1 (after RefRun.win0.1 V)) (Proc.devRef .tc Cert.ReferenceIdeal.main_v118))
      = fun _ => RefRun.total (Krn.losses m c) (Krn.valids m c) (Krn.feats m c) (Krn.origs m c) := by
  obtain ⟨x, a, l, num⟩ := Equation.numbers X O L A hpre
  obtain ⟨loss, e, hl⟩ := RefRun.result V X O A L hX hL hA hO
    (fun i j => (Lit.nbig ▸ EReal.bot_lt_coe _ : ⊥ < Ideal.ofBits .f32 0xF149F2CA#32).trans (num.far_angDist i j))
    (fun i j => (Lit.nbig ▸ EReal.bot_lt_coe _ : ⊥ < Ideal.ofBits .f32 0xF149F2CA#32).trans (num.far_cosine i j)) num.angDist_lt
  have hP : ∀ j k, Krn.left m c (ix2 j k) = Krn.leftKey A L j k := fun j k => by rw [Krn.left_at, kA, kL]
  have hR : ∀ i k, Krn.right m c (ix2 k i) = Krn.rightKey A L i k := fun i k => by rw [Krn.right_at, kA, kL]
  have el : Krn.losses m c = loss := funext fun i => by
    unfold Krn.losses
    rw [kX]
    exact num.loss_eq hP hR i (loss i) (hl i).1 (hl i).2
  have ev : Krn.valids m c = RefRun.validNum L := funext fun i => by
    unfold Krn.valids
    rw [kX]
    exact num.valid_eq hP hR i
  rw [el, ev, kX, kO]
  funext y
  rw [← e]
  have h0 : y 0 = (0 : Fin 1) := Fin.fin_one_eq_zero (y 0)
  have h1 : y 1 = (0 : Fin 1) := Fin.fin_one_eq_zero (y 1)
  have hy := eq_ix2 (n0 := 1) (n1 := 1) y
  rw [h0, h1] at hy
  exact congrArg _ hy

end

/-- On admissible arguments, the kernel read at the extended reals computes what the reference does. -/
theorem algebraic : Cert.algebraic_KernelIdeal_ReferenceIdeal_pre_admissible := by
  intro m g m' g' hpre hagree
  refine ⟨fun c => (Cert.KernelIdeal.Gen.dats m 0 c).arrAt 4 Cert.KernelIdeal.cfg0.N, Cert.KernelIdeal.Value.run_blocks m g,
    θ_run_mono (RefRun.run m' g') fun r h c => ?_⟩
  obtain ⟨a0, a1, a2, a3⟩ := RefRun.final_args m' c
  refine ⟨(h c _).trans ?_, (h c _).trans a0, (h c _).trans a1, (h c _).trans a2, (h c _).trans a3⟩
  refine Eq.trans ?_ (Krn.result m c).symm
  unfold RefRun.final
  exact value_eq m c (launchContents m' c) _ _ _ _ (hagree c).1 (hagree c).2.1 (hagree c).2.2.1 (hagree c).2.2.2
    (Cert.KernelIdeal.Gen.V_main_arg0 m c) rfl rfl (Cert.KernelIdeal.Gen.V_main_arg3 m c) (hpre c)

end Cert.Proof.Whole

end
-- ==== Proof.lean ====
/- The proof of the certificate's claim: the frames, the preservation and the value claim under the precondition. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Value
public import proofs.«01_k».proof.Proof.Gen.ReferenceIdeal
public import proofs.«01_k».proof.Proof.Gen.Pre_admissible
public import proofs.«01_k».proof.Proof.RefRun
public import proofs.«01_k».proof.Proof.Whole

@[expose] public section

noncomputable section

open Idealize.ShloMosaic Idealize.SL.Sem

namespace Cert.Proof

/-- The kernel returns on every launch and leaves its arguments as they were. -/
theorem frame_p : Cert.quiescent_Kernel (hKernel := Cert.Kernel.Gen.facts) := fun m ρ _ => Cert.Kernel.Gen.frame m ρ

/-- So does the kernel read at the extended reals. -/
theorem frame_pi : Cert.quiescent_KernelIdeal (hKernelIdeal := Cert.KernelIdeal.Gen.facts) :=
  fun m ρ _ => Cert.KernelIdeal.Gen.frame m ρ

/-- The idealization rewrote nothing. -/
theorem preserves : Cert.preserves_Kernel_KernelIdeal := trivial

/-- Everything this certificate claims. -/
theorem claim : Cert.Claim :=
  ⟨Cert.Kernel.Gen.facts, Cert.KernelIdeal.Gen.facts, Cert.ReferenceIdeal.Gen.facts, Cert.Pre_admissible.Gen.facts,
    frame_p, frame_pi, fun m ρ _ => frame_pi m ρ trivial, RefRun.frame_ri,
    fun m ρ _ => RefRun.frame_ri m ρ trivial, preserves, Whole.algebraic⟩

end Cert.Proof

end
